-- ==== Defs.lean ====
def Pre_Kernel [hPre_idx_in_cams : Cert.Pre_idx_in_cams.Facts] (m : (ℓ : Loc Cert.Kernel.nD Cert.Kernel.τ Cert.Kernel.sig) → Buf (Elt Bits) ℓ) : Prop :=
  ∀ c : Dev Cert.Kernel.nD,
    (Cert.Pre_idx_in_cams.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_idx_in_cams : Cert.Pre_idx_in_cams.Facts] (m : (ℓ : Loc Cert.KernelIdeal.nD Cert.KernelIdeal.τ Cert.KernelIdeal.sig) → Buf (Elt Ideal) ℓ) : Prop :=
  ∀ c : Dev Cert.KernelIdeal.nD,
    (Cert.Pre_idx_in_cams.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_KernelIdeal_idx_in_cams_one_sample_per_ray [hPre_idx_in_cams_one_sample_per_ray : Cert.Pre_idx_in_cams_one_sample_per_ray.Facts] (m : (ℓ : Loc Cert.KernelIdeal.nD Cert.KernelIdeal.τ Cert.KernelIdeal.sig) → Buf (Elt Ideal) ℓ) : Prop :=
  ∀ c : Dev Cert.KernelIdeal.nD,
    (Cert.Pre_idx_in_cams_one_sample_per_ray.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_idx_in_cams_one_sample_per_ray [hPre_idx_in_cams_one_sample_per_ray : Cert.Pre_idx_in_cams_one_sample_per_ray.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_idx_in_cams_one_sample_per_ray.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] [hPre_idx_in_cams : Cert.Pre_idx_in_cams.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] [hPre_idx_in_cams : Cert.Pre_idx_in_cams.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_idx_in_cams_one_sample_per_ray [hKernelIdeal : Cert.KernelIdeal.Facts] [hPre_idx_in_cams_one_sample_per_ray : Cert.Pre_idx_in_cams_one_sample_per_ray.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_idx_in_cams_one_sample_per_ray m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_idx_in_cams_one_sample_per_ray [hReferenceIdeal : Cert.ReferenceIdeal.Facts] [hPre_idx_in_cams_one_sample_per_ray : Cert.Pre_idx_in_cams_one_sample_per_ray.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_idx_in_cams_one_sample_per_ray m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_idx_in_cams_one_sample_per_ray [hKernelIdeal : Cert.KernelIdeal.Facts] [hReferenceIdeal : Cert.ReferenceIdeal.Facts] [hPre_idx_in_cams_one_sample_per_ray : Cert.Pre_idx_in_cams_one_sample_per_ray.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_idx_in_cams_one_sample_per_ray m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_idx_in_cams : Cert.Pre_idx_in_cams.Facts) (hPre_idx_in_cams_one_sample_per_ray : Cert.Pre_idx_in_cams_one_sample_per_ray.Facts),
    quiescent_Kernel (hKernel := hKernel) (hPre_idx_in_cams := hPre_idx_in_cams)
    ∧ quiescent_KernelIdeal (hKernelIdeal := hKernelIdeal) (hPre_idx_in_cams := hPre_idx_in_cams)
    ∧ quiescent_KernelIdeal_pre_idx_in_cams_one_sample_per_ray (hKernelIdeal := hKernelIdeal) (hPre_idx_in_cams_one_sample_per_ray := hPre_idx_in_cams_one_sample_per_ray)
    ∧ quiescent_ReferenceIdeal (hReferenceIdeal := hReferenceIdeal)
    ∧ quiescent_ReferenceIdeal_pre_idx_in_cams_one_sample_per_ray (hReferenceIdeal := hReferenceIdeal) (hPre_idx_in_cams_one_sample_per_ray := hPre_idx_in_cams_one_sample_per_ray)
    ∧ preserves_Kernel_KernelIdeal
    ∧ algebraic_KernelIdeal_ReferenceIdeal_pre_idx_in_cams_one_sample_per_ray (hKernelIdeal := hKernelIdeal) (hReferenceIdeal := hReferenceIdeal) (hPre_idx_in_cams_one_sample_per_ray := hPre_idx_in_cams_one_sample_per_ray)
-- ==== Pre_idx_in_cams.lean ====
abbrev S32768x3 : Shape := ⟨2, ![32768, 3]⟩
abbrev S32768 : Shape := ⟨1, ![32768]⟩
abbrev S32768x2 : Shape := ⟨2, ![32768, 2]⟩
abbrev S16x3 : Shape := ⟨2, ![16, 3]⟩
abbrev S_ : Shape := ⟨0, ![]⟩

class Facts : Prop where
  bcast_S_S32768 : S_.BroadcastsInDim S32768 (![] : Fin 0 → Fin S32768.rank)

variable [Facts]

def fn {F : FTy → Type} [FloatOps F] (main_arg0 : FVec F S32768x3 .f32) (main_arg1 : IVec S32768 32) (main_arg2 : IVec S32768x2 32) (main_arg3 : FVec F S16x3 .f32) (main_arg4 : FVec F S16x3 .f32) : IVec S32768 1 :=
  let main_c : IVec S_ 32 := constantI S_ 32 0#32
  let main_v0 : IVec S32768 32 := broadcastInDim S32768 ![] bcast_S_S32768 main_c
  let main_v1 : IVec S32768 1 := cmpi .sge main_arg1 main_v0
  let main_c_0 : IVec S_ 32 := constantI S_ 32 16#32
  let main_v2 : IVec S32768 32 := broadcastInDim S32768 ![] bcast_S_S32768 main_c_0
  let main_v3 : IVec S32768 1 := cmpi .slt main_arg1 main_v2
  let main_v4 : IVec S32768 1 := andi main_v1 main_v3
  main_v4
-- ==== Pre_idx_in_cams_one_sample_per_ray.lean ====
abbrev S32768x3 : Shape := ⟨2, ![32768, 3]⟩
abbrev S32768 : Shape := ⟨1, ![32768]⟩
abbrev S32768x2 : Shape := ⟨2, ![32768, 2]⟩
abbrev S16x3 : Shape := ⟨2, ![16, 3]⟩
abbrev S_ : Shape := ⟨0, ![]⟩
abbrev S32768x1 : Shape := ⟨2, ![32768, 1]⟩

class Facts : Prop where
  bcast_S_S32768 : S_.BroadcastsInDim S32768 (![] : Fin 0 → Fin S32768.rank)
  slices_S32768x2_S32768x1_0_1 : S32768x2.Slices ![0, 1] S32768x1
  shapeCasts_S32768x1_S32768 : S32768x1.ShapeCasts S32768
  slices_S32768x2_S32768x1_0_0 : S32768x2.Slices ![0, 0] S32768x1

variable [Facts]

def fn {F : FTy → Type} [FloatOps F] (main_arg0 : FVec F S32768x3 .f32) (main_arg1 : IVec S32768 32) (main_arg2 : IVec S32768x2 32) (main_arg3 : FVec F S16x3 .f32) (main_arg4 : FVec F S16x3 .f32) : IVec S32768 1 :=
  let main_c : IVec S_ 32 := constantI S_ 32 0#32
  let main_v0 : IVec S32768 32 := broadcastInDim S32768 ![] bcast_S_S32768 main_c
  let main_v1 : IVec S32768 1 := cmpi .sge main_arg1 main_v0
  let main_c_0 : IVec S_ 32 := constantI S_ 32 16#32
  let main_v2 : IVec S32768 32 := broadcastInDim S32768 ![] bcast_S_S32768 main_c_0
  let main_v3 : IVec S32768 1 := cmpi .slt main_arg1 main_v2
  let main_v4 : IVec S32768 1 := andi main_v1 main_v3
  let main_v5 : IVec S32768x1 32 := (extractStridedSlice S32768x1 ![0, 1] · slices_S32768x2_S32768x1_0_1) main_arg2
  let main_v6 : IVec S32768 32 := shapeCast S32768 main_v5 shapeCasts_S32768x1_S32768
  let main_v7 : IVec S32768x1 32 := (extractStridedSlice S32768x1 ![0, 0] · slices_S32768x2_S32768x1_0_0) main_arg2
  let main_v8 : IVec S32768 32 := shapeCast S32768 main_v7 shapeCasts_S32768x1_S32768
  let main_v9 : IVec S32768 32 := subi main_v6 main_v8
  let main_c_1 : IVec S_ 32 := constantI S_ 32 1#32
  let main_v10 : IVec S32768 32 := broadcastInDim S32768 ![] bcast_S_S32768 main_c_1
  let main_v11 : IVec S32768 1 := cmpi .eq main_v9 main_v10
  let main_v12 : IVec S32768 1 := andi main_v4 main_v11
  main_v12
-- ==== Kernel.lean ====
abbrev S32768x3 : Shape := ⟨2, ![32768, 3]⟩
abbrev S32768 : Shape := ⟨1, ![32768]⟩
abbrev S32768x2 : Shape := ⟨2, ![32768, 2]⟩
abbrev S16x3 : Shape := ⟨2, ![16, 3]⟩
abbrev S32x3 : Shape := ⟨2, ![32, 3]⟩
abbrev S128x3 : Shape := ⟨2, ![128, 3]⟩
abbrev S1024 : Shape := ⟨1, ![1024]⟩
abbrev S16 : Shape := ⟨1, ![16]⟩
abbrev S_ : Shape := ⟨0, ![]⟩

abbrev nBuf : Table → Nat
  | .hbm => 7
  | .local .scVector .vmem => 14
  | _ => 0

abbrev bufTy : (tb : Table) → Fin (nBuf tb) → BufTy
  | .hbm, ⟨0, _⟩ => ⟨S32768x3, .f32⟩
  | .hbm, ⟨1, _⟩ => ⟨S32768, .i32⟩
  | .hbm, ⟨2, _⟩ => ⟨S32768x2, .i32⟩
  | .hbm, ⟨3, _⟩ => ⟨S16x3, .f32⟩
  | .hbm, ⟨4, _⟩ => ⟨S16x3, .f32⟩
  | .hbm, ⟨5, _⟩ => ⟨S32x3, .f32⟩
  | .hbm, ⟨6, _⟩ => ⟨S32768x3, .f32⟩
  | .local .scVector .vmem, ⟨0, _⟩ => ⟨S128x3, .f32⟩
  | .local .scVector .vmem, ⟨1, _⟩ => ⟨S128x3, .f32⟩
  | .local .scVector .vmem, ⟨2, _⟩ => ⟨S128x3, .f32⟩
  | .local .scVector .vmem, ⟨3, _⟩ => ⟨S128x3, .f32⟩
  | .local .scVector .vmem, ⟨4, _⟩ => ⟨S128x3, .f32⟩
  | .local .scVector .vmem, ⟨5, _⟩ => ⟨S128x3, .f32⟩
  | .local .scVector .vmem, ⟨6, _⟩ => ⟨S1024, .i32⟩
  | .local .scVector .vmem, ⟨7, _⟩ => ⟨S32x3, .f32⟩
  | .local .scVector .vmem, ⟨8, _⟩ => ⟨S16, .f32⟩
  | .local .scVector .vmem, ⟨9, _⟩ => ⟨S16, .f32⟩
  | .local .scVector .vmem, ⟨10, _⟩ => ⟨S16, .f32⟩
  | .local .scVector .vmem, ⟨11, _⟩ => ⟨S16, .f32⟩
  | .local .scVector .vmem, ⟨12, _⟩ => ⟨S16, .f32⟩
  | .local .scVector .vmem, ⟨13, _⟩ => ⟨S16, .f32⟩
  | _, _ => ⟨S32768x3, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 8 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | _ => false

abbrev sig : RefSig :=
  ofTables nBuf rfl bufTy 4 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_arg0_scv : Ref sig .scVector := ⟨.hbm, 0, rfl⟩
abbrev main_arg1_scv : Ref sig .scVector := ⟨.hbm, 1, rfl⟩
abbrev main_v0_scv : Ref sig .scVector := ⟨.hbm, 5, rfl⟩
abbrev main_v1_scv : Ref sig .scVector := ⟨.hbm, 6, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc0_scratch7 : Ref sig .scVector := ⟨.vmem, 7, rfl⟩
abbrev cc0_scratch8 : Ref sig .scVector := ⟨.vmem, 8, rfl⟩
abbrev cc0_scratch9 : Ref sig .scVector := ⟨.vmem, 9, rfl⟩
abbrev cc0_scratch10 : Ref sig .scVector := ⟨.vmem, 10, rfl⟩
abbrev cc0_scratch11 : Ref sig .scVector := ⟨.vmem, 11, rfl⟩
abbrev cc0_scratch12 : Ref sig .scVector := ⟨.vmem, 12, rfl⟩
abbrev cc0_scratch13 : Ref sig .scVector := ⟨.vmem, 13, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  ![v2.toNat]
def k0_off2 (i : grid0.Coords) (c0_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v5 : BitVec 32 := Scalar.addi v2 c0_i32
  let c0_i32_0 : BitVec 32 := 0#32
  ![v5.toNat, 0]

def k0_chk1 (v14 : IVec S16 32) (v20 : IVec S16 32) : Prop :=
  (∀ a x, ((![v14, v20] : Fin 2 → IVec S16 32) a x).toNat < S32x3.size a)
theorem k0_idx1_inb : ∀ (v14 : IVec S16 32) (v20 : IVec S16 32) (k0_hw1 : k0_chk1 v14 v20), ∀ a x, ((![v14, v20] : Fin 2 → IVec S16 32) a x).toNat < S32x3.size a := fun v14 v20 k0_hw1 => k0_hw1

def k0_chk2 (v20 : IVec S16 32) (v31 : IVec S16 32) : Prop :=
  (∀ a x, ((![v31, v20] : Fin 2 → IVec S16 32) a x).toNat < S32x3.size a)
theorem k0_idx2_inb : ∀ (v20 : IVec S16 32) (v31 : IVec S16 32) (k0_hw2 : k0_chk2 v20 v31), ∀ a x, ((![v31, v20] : Fin 2 → IVec S16 32) a x).toNat < S32x3.size a := fun v20 v31 k0_hw2 => k0_hw2

def k0_chk3 (v14 : IVec S16 32) (v24 : IVec S16 32) : Prop :=
  (∀ a x, ((![v14, v24] : Fin 2 → IVec S16 32) a x).toNat < S32x3.size a)
theorem k0_idx3_inb : ∀ (v14 : IVec S16 32) (v24 : IVec S16 32) (k0_hw3 : k0_chk3 v14 v24), ∀ a x, ((![v14, v24] : Fin 2 → IVec S16 32) a x).toNat < S32x3.size a := fun v14 v24 k0_hw3 => k0_hw3

def k0_chk4 (v24 : IVec S16 32) (v43 : IVec S16 32) : Prop :=
  (∀ a x, ((![v43, v24] : Fin 2 → IVec S16 32) a x).toNat < S32x3.size a)
theorem k0_idx4_inb : ∀ (v24 : IVec S16 32) (v43 : IVec S16 32) (k0_hw4 : k0_chk4 v24 v43), ∀ a x, ((![v43, v24] : Fin 2 → IVec S16 32) a x).toNat < S32x3.size a := fun v24 v43 k0_hw4 => k0_hw4

def k0_chk5 (v14 : IVec S16 32) (v28 : IVec S16 32) : Prop :=
  (∀ a x, ((![v14, v28] : Fin 2 → IVec S16 32) a x).toNat < S32x3.size a)
theorem k0_idx5_inb : ∀ (v14 : IVec S16 32) (v28 : IVec S16 32) (k0_hw5 : k0_chk5 v14 v28), ∀ a x, ((![v14, v28] : Fin 2 → IVec S16 32) a x).toNat < S32x3.size a := fun v14 v28 k0_hw5 => k0_hw5

def k0_chk6 (v28 : IVec S16 32) (v55 : IVec S16 32) : Prop :=
  (∀ a x, ((![v55, v28] : Fin 2 → IVec S16 32) a x).toNat < S32x3.size a)
theorem k0_idx6_inb : ∀ (v28 : IVec S16 32) (v55 : IVec S16 32) (k0_hw6 : k0_chk6 v28 v55), ∀ a x, ((![v55, v28] : Fin 2 → IVec S16 32) a x).toNat < S32x3.size a := fun v28 v55 k0_hw6 => k0_hw6
def k0_off3 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  ![v2.toNat]
def k0_off4 (i : grid0.Coords) (c0_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v5 : BitVec 32 := Scalar.addi v2 c0_i32
  let c0_i32_27 : BitVec 32 := 0#32
  ![v5.toNat, 0]
@[reducible] def k0_t1_loop : Scf.Loop 32 :=
  let c0_i32_29 : BitVec 32 := 0#32
  let c8_i32 : BitVec 32 := 8#32
  let v69 : BitVec 32 := Scalar.addi c0_i32_29 c8_i32
  let c1_i32_30 : BitVec 32 := 1#32
  ⟨c0_i32_29, v69, c1_i32_30⟩
def k0_off5 (k0_t1 : Fin k0_t1_loop.trips) : Fin 1 → Nat :=
  let c0_i32_128 : BitVec 32 := 0#32
  let c0_i32_125 : BitVec 32 := 0#32
  let c0_i32_29 : BitVec 32 := 0#32
  let c1_i32_30 : BitVec 32 := 1#32
  let arg28 : BitVec 32 := Scf.iv c0_i32_29 c1_i32_30 k0_t1
  let c1_i32_124 : BitVec 32 := 1#32
  let v146 : BitVec 32 := Scalar.muli arg28 c1_i32_124
  let v147 : BitVec 32 := Scalar.addi c0_i32_125 v146
  let c16_i32_127 : BitVec 32 := 16#32
  let v151 : BitVec 32 := Scalar.muli v147 c16_i32_127
  let v152 : BitVec 32 := Scalar.addi c0_i32_128 v151
  let v153 : Index := Scalar.indexCast v152
  ![v153.toNat]

def k0_chk8 (v154 : IVec S16 32) : Prop :=
  (∀ a x, ((![v154] : Fin 1 → IVec S16 32) a x).toNat < S16.size a) ∧
  (∀ a x, ((![v154] : Fin 1 → IVec S16 32) a x).toNat < S16.size a) ∧
  (∀ a x, ((![v154] : Fin 1 → IVec S16 32) a x).toNat < S16.size a) ∧
  (∀ a x, ((![v154] : Fin 1 → IVec S16 32) a x).toNat < S16.size a) ∧
  (∀ a x, ((![v154] : Fin 1 → IVec S16 32) a x).toNat < S16.size a) ∧
  (∀ a x, ((![v154] : Fin 1 → IVec S16 32) a x).toNat < S16.size a)
theorem k0_idx8_inb : ∀ (v154 : IVec S16 32) (k0_hw8 : k0_chk8 v154), ∀ a x, ((![v154] : Fin 1 → IVec S16 32) a x).toNat < S16.size a := fun v154 k0_hw8 => k0_hw8.1
theorem k0_idx9_inb : ∀ (v154 : IVec S16 32) (k0_hw8 : k0_chk8 v154), ∀ a x, ((![v154] : Fin 1 → IVec S16 32) a x).toNat < S16.size a := fun v154 k0_hw8 => k0_hw8.2.1
theorem k0_idx12_inb : ∀ (v154 : IVec S16 32) (k0_hw8 : k0_chk8 v154), ∀ a x, ((![v154] : Fin 1 → IVec S16 32) a x).toNat < S16.size a := fun v154 k0_hw8 => k0_hw8.2.2.1
theorem k0_idx13_inb : ∀ (v154 : IVec S16 32) (k0_hw8 : k0_chk8 v154), ∀ a x, ((![v154] : Fin 1 → IVec S16 32) a x).toNat < S16.size a := fun v154 k0_hw8 => k0_hw8.2.2.2.1
theorem k0_idx16_inb : ∀ (v154 : IVec S16 32) (k0_hw8 : k0_chk8 v154), ∀ a x, ((![v154] : Fin 1 → IVec S16 32) a x).toNat < S16.size a := fun v154 k0_hw8 => k0_hw8.2.2.2.2.1
theorem k0_idx17_inb : ∀ (v154 : IVec S16 32) (k0_hw8 : k0_chk8 v154), ∀ a x, ((![v154] : Fin 1 → IVec S16 32) a x).toNat < S16.size a := fun v154 k0_hw8 => k0_hw8.2.2.2.2.2

def k0_chk7 (v20 : IVec S16 32) (v24 : IVec S16 32) (v28 : IVec S16 32) (v150 : IVec S16 32) : Prop :=
  (∀ a x, ((![v150, v20] : Fin 2 → IVec S16 32) a x).toNat < S128x3.size a) ∧
  (∀ a x, ((![v150, v20] : Fin 2 → IVec S16 32) a x).toNat < S128x3.size a) ∧
  (∀ a x, ((![v150, v24] : Fin 2 → IVec S16 32) a x).toNat < S128x3.size a) ∧
  (∀ a x, ((![v150, v24] : Fin 2 → IVec S16 32) a x).toNat < S128x3.size a) ∧
  (∀ a x, ((![v150, v28] : Fin 2 → IVec S16 32) a x).toNat < S128x3.size a) ∧
  (∀ a x, ((![v150, v28] : Fin 2 → IVec S16 32) a x).toNat < S128x3.size a)
theorem k0_idx7_inb : ∀ (v20 : IVec S16 32) (v24 : IVec S16 32) (v28 : IVec S16 32) (v150 : IVec S16 32) (k0_hw7 : k0_chk7 v20 v24 v28 v150), ∀ a x, ((![v150, v20] : Fin 2 → IVec S16 32) a x).toNat < S128x3.size a := fun v20 v24 v28 v150 k0_hw7 => k0_hw7.1
theorem k0_idx10_inb : ∀ (v20 : IVec S16 32) (v24 : IVec S16 32) (v28 : IVec S16 32) (v150 : IVec S16 32) (k0_hw7 : k0_chk7 v20 v24 v28 v150), ∀ a x, ((![v150, v20] : Fin 2 → IVec S16 32) a x).toNat < S128x3.size a := fun v20 v24 v28 v150 k0_hw7 => k0_hw7.2.1
theorem k0_idx11_inb : ∀ (v20 : IVec S16 32) (v24 : IVec S16 32) (v28 : IVec S16 32) (v150 : IVec S16 32) (k0_hw7 : k0_chk7 v20 v24 v28 v150), ∀ a x, ((![v150, v24] : Fin 2 → IVec S16 32) a x).toNat < S128x3.size a := fun v20 v24 v28 v150 k0_hw7 => k0_hw7.2.2.1
theorem k0_idx14_inb : ∀ (v20 : IVec S16 32) (v24 : IVec S16 32) (v28 : IVec S16 32) (v150 : IVec S16 32) (k0_hw7 : k0_chk7 v20 v24 v28 v150), ∀ a x, ((![v150, v24] : Fin 2 → IVec S16 32) a x).toNat < S128x3.size a := fun v20 v24 v28 v150 k0_hw7 => k0_hw7.2.2.2.1
theorem k0_idx15_inb : ∀ (v20 : IVec S16 32) (v24 : IVec S16 32) (v28 : IVec S16 32) (v150 : IVec S16 32) (k0_hw7 : k0_chk7 v20 v24 v28 v150), ∀ a x, ((![v150, v28] : Fin 2 → IVec S16 32) a x).toNat < S128x3.size a := fun v20 v24 v28 v150 k0_hw7 => k0_hw7.2.2.2.2.1
theorem k0_idx18_inb : ∀ (v20 : IVec S16 32) (v24 : IVec S16 32) (v28 : IVec S16 32) (v150 : IVec S16 32) (k0_hw7 : k0_chk7 v20 v24 v28 v150), ∀ a x, ((![v150, v28] : Fin 2 → IVec S16 32) a x).toNat < S128x3.size a := fun v20 v24 v28 v150 k0_hw7 => k0_hw7.2.2.2.2.2
@[reducible] def k0_t2_loop : Scf.Loop 32 :=
  let c0_i32_39 : BitVec 32 := 0#32
  let c8_i32_40 : BitVec 32 := 8#32
  let v78 : BitVec 32 := Scalar.addi c0_i32_39 c8_i32_40
  let c1_i32_41 : BitVec 32 := 1#32
  ⟨c0_i32_39, v78, c1_i32_41⟩
def k0_off6 (k0_t2 : Fin k0_t2_loop.trips) : Fin 1 → Nat :=
  let c128_i32_128 : BitVec 32 := 128#32
  let c0_i32_125 : BitVec 32 := 0#32
  let c0_i32_39 : BitVec 32 := 0#32
  let c1_i32_41 : BitVec 32 := 1#32
  let arg28 : BitVec 32 := Scf.iv c0_i32_39 c1_i32_41 k0_t2
  let c1_i32_124 : BitVec 32 := 1#32
  let v146 : BitVec 32 := Scalar.muli arg28 c1_i32_124
  let v147 : BitVec 32 := Scalar.addi c0_i32_125 v146
  let c16_i32_127 : BitVec 32 := 16#32
  let v151 : BitVec 32 := Scalar.muli v147 c16_i32_127
  let v152 : BitVec 32 := Scalar.addi c128_i32_128 v151
  let v153 : Index := Scalar.indexCast v152
  ![v153.toNat]

def k0_chk10 (v154 : IVec S16 32) : Prop :=
  (∀ a x, ((![v154] : Fin 1 → IVec S16 32) a x).toNat < S16.size a) ∧
  (∀ a x, ((![v154] : Fin 1 → IVec S16 32) a x).toNat < S16.size a) ∧
  (∀ a x, ((![v154] : Fin 1 → IVec S16 32) a x).toNat < S16.size a) ∧
  (∀ a x, ((![v154] : Fin 1 → IVec S16 32) a x).toNat < S16.size a) ∧
  (∀ a x, ((![v154] : Fin 1 → IVec S16 32) a x).toNat < S16.size a) ∧
  (∀ a x, ((![v154] : Fin 1 → IVec S16 32) a x).toNat < S16.size a)
theorem k0_idx20_inb : ∀ (v154 : IVec S16 32) (k0_hw10 : k0_chk10 v154), ∀ a x, ((![v154] : Fin 1 → IVec S16 32) a x).toNat < S16.size a := fun v154 k0_hw10 => k0_hw10.1
theorem k0_idx21_inb : ∀ (v154 : IVec S16 32) (k0_hw10 : k0_chk10 v154), ∀ a x, ((![v154] : Fin 1 → IVec S16 32) a x).toNat < S16.size a := fun v154 k0_hw10 => k0_hw10.2.1
theorem k0_idx24_inb : ∀ (v154 : IVec S16 32) (k0_hw10 : k0_chk10 v154), ∀ a x, ((![v154] : Fin 1 → IVec S16 32) a x).toNat < S16.size a := fun v154 k0_hw10 => k0_hw10.2.2.1
theorem k0_idx25_inb : ∀ (v154 : IVec S16 32) (k0_hw10 : k0_chk10 v154), ∀ a x, ((![v154] : Fin 1 → IVec S16 32) a x).toNat < S16.size a := fun v154 k0_hw10 => k0_hw10.2.2.2.1
theorem k0_idx28_inb : ∀ (v154 : IVec S16 32) (k0_hw10 : k0_chk10 v154), ∀ a x, ((![v154] : Fin 1 → IVec S16 32) a x).toNat < S16.size a := fun v154 k0_hw10 => k0_hw10.2.2.2.2.1
theorem k0_idx29_inb : ∀ (v154 : IVec S16 32) (k0_hw10 : k0_chk10 v154), ∀ a x, ((![v154] : Fin 1 → IVec S16 32) a x).toNat < S16.size a := fun v154 k0_hw10 => k0_hw10.2.2.2.2.2

def k0_chk9 (v20 : IVec S16 32) (v24 : IVec S16 32) (v28 : IVec S16 32) (v150 : IVec S16 32) : Prop :=
  (∀ a x, ((![v150, v20] : Fin 2 → IVec S16 32) a x).toNat < S128x3.size a) ∧
  (∀ a x, ((![v150, v20] : Fin 2 → IVec S16 32) a x).toNat < S128x3.size a) ∧
  (∀ a x, ((![v150, v24] : Fin 2 → IVec S16 32) a x).toNat < S128x3.size a) ∧
  (∀ a x, ((![v150, v24] : Fin 2 → IVec S16 32) a x).toNat < S128x3.size a) ∧
  (∀ a x, ((![v150, v28] : Fin 2 → IVec S16 32) a x).toNat < S128x3.size a) ∧
  (∀ a x, ((![v150, v28] : Fin 2 → IVec S16 32) a x).toNat < S128x3.size a)
theorem k0_idx19_inb : ∀ (v20 : IVec S16 32) (v24 : IVec S16 32) (v28 : IVec S16 32) (v150 : IVec S16 32) (k0_hw9 : k0_chk9 v20 v24 v28 v150), ∀ a x, ((![v150, v20] : Fin 2 → IVec S16 32) a x).toNat < S128x3.size a := fun v20 v24 v28 v150 k0_hw9 => k0_hw9.1
theorem k0_idx22_inb : ∀ (v20 : IVec S16 32) (v24 : IVec S16 32) (v28 : IVec S16 32) (v150 : IVec S16 32) (k0_hw9 : k0_chk9 v20 v24 v28 v150), ∀ a x, ((![v150, v20] : Fin 2 → IVec S16 32) a x).toNat < S128x3.size a := fun v20 v24 v28 v150 k0_hw9 => k0_hw9.2.1
theorem k0_idx23_inb : ∀ (v20 : IVec S16 32) (v24 : IVec S16 32) (v28 : IVec S16 32) (v150 : IVec S16 32) (k0_hw9 : k0_chk9 v20 v24 v28 v150), ∀ a x, ((![v150, v24] : Fin 2 → IVec S16 32) a x).toNat < S128x3.size a := fun v20 v24 v28 v150 k0_hw9 => k0_hw9.2.2.1
theorem k0_idx26_inb : ∀ (v20 : IVec S16 32) (v24 : IVec S16 32) (v28 : IVec S16 32) (v150 : IVec S16 32) (k0_hw9 : k0_chk9 v20 v24 v28 v150), ∀ a x, ((![v150, v24] : Fin 2 → IVec S16 32) a x).toNat < S128x3.size a := fun v20 v24 v28 v150 k0_hw9 => k0_hw9.2.2.2.1
theorem k0_idx27_inb : ∀ (v20 : IVec S16 32) (v24 : IVec S16 32) (v28 : IVec S16 32) (v150 : IVec S16 32) (k0_hw9 : k0_chk9 v20 v24 v28 v150), ∀ a x, ((![v150, v28] : Fin 2 → IVec S16 32) a x).toNat < S128x3.size a := fun v20 v24 v28 v150 k0_hw9 => k0_hw9.2.2.2.2.1
theorem k0_idx30_inb : ∀ (v20 : IVec S16 32) (v24 : IVec S16 32) (v28 : IVec S16 32) (v150 : IVec S16 32) (k0_hw9 : k0_chk9 v20 v24 v28 v150), ∀ a x, ((![v150, v28] : Fin 2 → IVec S16 32) a x).toNat < S128x3.size a := fun v20 v24 v28 v150 k0_hw9 => k0_hw9.2.2.2.2.2
@[reducible] def k0_t3_loop : Scf.Loop 32 :=
  let c0_i32_50 : BitVec 32 := 0#32
  let c8_i32_51 : BitVec 32 := 8#32
  let v87 : BitVec 32 := Scalar.addi c0_i32_50 c8_i32_51
  let c1_i32_52 : BitVec 32 := 1#32
  ⟨c0_i32_50, v87, c1_i32_52⟩
def k0_off7 (k0_t3 : Fin k0_t3_loop.trips) : Fin 1 → Nat :=
  let c256_i32_128 : BitVec 32 := 256#32
  let c0_i32_125 : BitVec 32 := 0#32
  let c0_i32_50 : BitVec 32 := 0#32
  let c1_i32_52 : BitVec 32 := 1#32
  let arg28 : BitVec 32 := Scf.iv c0_i32_50 c1_i32_52 k0_t3
  let c1_i32_124 : BitVec 32 := 1#32
  let v146 : BitVec 32 := Scalar.muli arg28 c1_i32_124
  let v147 : BitVec 32 := Scalar.addi c0_i32_125 v146
  let c16_i32_127 : BitVec 32 := 16#32
  let v151 : BitVec 32 := Scalar.muli v147 c16_i32_127
  let v152 : BitVec 32 := Scalar.addi c256_i32_128 v151
  let v153 : Index := Scalar.indexCast v152
  ![v153.toNat]

def k0_chk12 (v154 : IVec S16 32) : Prop :=
  (∀ a x, ((![v154] : Fin 1 → IVec S16 32) a x).toNat < S16.size a) ∧
  (∀ a x, ((![v154] : Fin 1 → IVec S16 32) a x).toNat < S16.size a) ∧
  (∀ a x, ((![v154] : Fin 1 → IVec S16 32) a x).toNat < S16.size a) ∧
  (∀ a x, ((![v154] : Fin 1 → IVec S16 32) a x).toNat < S16.size a) ∧
  (∀ a x, ((![v154] : Fin 1 → IVec S16 32) a x).toNat < S16.size a) ∧
  (∀ a x, ((![v154] : Fin 1 → IVec S16 32) a x).toNat < S16.size a)
theorem k0_idx32_inb : ∀ (v154 : IVec S16 32) (k0_hw12 : k0_chk12 v154), ∀ a x, ((![v154] : Fin 1 → IVec S16 32) a x).toNat < S16.size a := fun v154 k0_hw12 => k0_hw12.1
theorem k0_idx33_inb : ∀ (v154 : IVec S16 32) (k0_hw12 : k0_chk12 v154), ∀ a x, ((![v154] : Fin 1 → IVec S16 32) a x).toNat < S16.size a := fun v154 k0_hw12 => k0_hw12.2.1
theorem k0_idx36_inb : ∀ (v154 : IVec S16 32) (k0_hw12 : k0_chk12 v154), ∀ a x, ((![v154] : Fin 1 → IVec S16 32) a x).toNat < S16.size a := fun v154 k0_hw12 => k0_hw12.2.2.1
theorem k0_idx37_inb : ∀ (v154 : IVec S16 32) (k0_hw12 : k0_chk12 v154), ∀ a x, ((![v154] : Fin 1 → IVec S16 32) a x).toNat < S16.size a := fun v154 k0_hw12 => k0_hw12.2.2.2.1
theorem k0_idx40_inb : ∀ (v154 : IVec S16 32) (k0_hw12 : k0_chk12 v154), ∀ a x, ((![v154] : Fin 1 → IVec S16 32) a x).toNat < S16.size a := fun v154 k0_hw12 => k0_hw12.2.2.2.2.1
theorem k0_idx41_inb : ∀ (v154 : IVec S16 32) (k0_hw12 : k0_chk12 v154), ∀ a x, ((![v154] : Fin 1 → IVec S16 32) a x).toNat < S16.size a := fun v154 k0_hw12 => k0_hw12.2.2.2.2.2

def k0_chk11 (v20 : IVec S16 32) (v24 : IVec S16 32) (v28 : IVec S16 32) (v150 : IVec S16 32) : Prop :=
  (∀ a x, ((![v150, v20] : Fin 2 → IVec S16 32) a x).toNat < S128x3.size a) ∧
  (∀ a x, ((![v150, v20] : Fin 2 → IVec S16 32) a x).toNat < S128x3.size a) ∧
  (∀ a x, ((![v150, v24] : Fin 2 → IVec S16 32) a x).toNat < S128x3.size a) ∧
  (∀ a x, ((![v150, v24] : Fin 2 → IVec S16 32) a x).toNat < S128x3.size a) ∧
  (∀ a x, ((![v150, v28] : Fin 2 → IVec S16 32) a x).toNat < S128x3.size a) ∧
  (∀ a x, ((![v150, v28] : Fin 2 → IVec S16 32) a x).toNat < S128x3.size a)
theorem k0_idx31_inb : ∀ (v20 : IVec S16 32) (v24 : IVec S16 32) (v28 : IVec S16 32) (v150 : IVec S16 32) (k0_hw11 : k0_chk11 v20 v24 v28 v150), ∀ a x, ((![v150, v20] : Fin 2 → IVec S16 32) a x).toNat < S128x3.size a := fun v20 v24 v28 v150 k0_hw11 => k0_hw11.1
theorem k0_idx34_inb : ∀ (v20 : IVec S16 32) (v24 : IVec S16 32) (v28 : IVec S16 32) (v150 : IVec S16 32) (k0_hw11 : k0_chk11 v20 v24 v28 v150), ∀ a x, ((![v150, v20] : Fin 2 → IVec S16 32) a x).toNat < S128x3.size a := fun v20 v24 v28 v150 k0_hw11 => k0_hw11.2.1
theorem k0_idx35_inb : ∀ (v20 : IVec S16 32) (v24 : IVec S16 32) (v28 : IVec S16 32) (v150 : IVec S16 32) (k0_hw11 : k0_chk11 v20 v24 v28 v150), ∀ a x, ((![v150, v24] : Fin 2 → IVec S16 32) a x).toNat < S128x3.size a := fun v20 v24 v28 v150 k0_hw11 => k0_hw11.2.2.1
theorem k0_idx38_inb : ∀ (v20 : IVec S16 32) (v24 : IVec S16 32) (v28 : IVec S16 32) (v150 : IVec S16 32) (k0_hw11 : k0_chk11 v20 v24 v28 v150), ∀ a x, ((![v150, v24] : Fin 2 → IVec S16 32) a x).toNat < S128x3.size a := fun v20 v24 v28 v150 k0_hw11 => k0_hw11.2.2.2.1
theorem k0_idx39_inb : ∀ (v20 : IVec S16 32) (v24 : IVec S16 32) (v28 : IVec S16 32) (v150 : IVec S16 32) (k0_hw11 : k0_chk11 v20 v24 v28 v150), ∀ a x, ((![v150, v28] : Fin 2 → IVec S16 32) a x).toNat < S128x3.size a := fun v20 v24 v28 v150 k0_hw11 => k0_hw11.2.2.2.2.1
theorem k0_idx42_inb : ∀ (v20 : IVec S16 32) (v24 : IVec S16 32) (v28 : IVec S16 32) (v150 : IVec S16 32) (k0_hw11 : k0_chk11 v20 v24 v28 v150), ∀ a x, ((![v150, v28] : Fin 2 → IVec S16 32) a x).toNat < S128x3.size a := fun v20 v24 v28 v150 k0_hw11 => k0_hw11.2.2.2.2.2
@[reducible] def k0_t4_loop : Scf.Loop 32 :=
  let c0_i32_63 : BitVec 32 := 0#32
  let c8_i32_64 : BitVec 32 := 8#32
  let v98 : BitVec 32 := Scalar.addi c0_i32_63 c8_i32_64
  let c1_i32_65 : BitVec 32 := 1#32
  ⟨c0_i32_63, v98, c1_i32_65⟩
def k0_off8 (k0_t4 : Fin k0_t4_loop.trips) : Fin 1 → Nat :=
  let c384_i32_128 : BitVec 32 := 384#32
  let c0_i32_125 : BitVec 32 := 0#32
  let c0_i32_63 : BitVec 32 := 0#32
  let c1_i32_65 : BitVec 32 := 1#32
  let arg28 : BitVec 32 := Scf.iv c0_i32_63 c1_i32_65 k0_t4
  let c1_i32_124 : BitVec 32 := 1#32
  let v146 : BitVec 32 := Scalar.muli arg28 c1_i32_124
  let v147 : BitVec 32 := Scalar.addi c0_i32_125 v146
  let c16_i32_127 : BitVec 32 := 16#32
  let v151 : BitVec 32 := Scalar.muli v147 c16_i32_127
  let v152 : BitVec 32 := Scalar.addi c384_i32_128 v151
  let v153 : Index := Scalar.indexCast v152
  ![v153.toNat]

def k0_chk14 (v154 : IVec S16 32) : Prop :=
  (∀ a x, ((![v154] : Fin 1 → IVec S16 32) a x).toNat < S16.size a) ∧
  (∀ a x, ((![v154] : Fin 1 → IVec S16 32) a x).toNat < S16.size a) ∧
  (∀ a x, ((![v154] : Fin 1 → IVec S16 32) a x).toNat < S16.size a) ∧
  (∀ a x, ((![v154] : Fin 1 → IVec S16 32) a x).toNat < S16.size a) ∧
  (∀ a x, ((![v154] : Fin 1 → IVec S16 32) a x).toNat < S16.size a) ∧
  (∀ a x, ((![v154] : Fin 1 → IVec S16 32) a x).toNat < S16.size a)
theorem k0_idx44_inb : ∀ (v154 : IVec S16 32) (k0_hw14 : k0_chk14 v154), ∀ a x, ((![v154] : Fin 1 → IVec S16 32) a x).toNat < S16.size a := fun v154 k0_hw14 => k0_hw14.1
theorem k0_idx45_inb : ∀ (v154 : IVec S16 32) (k0_hw14 : k0_chk14 v154), ∀ a x, ((![v154] : Fin 1 → IVec S16 32) a x).toNat < S16.size a := fun v154 k0_hw14 => k0_hw14.2.1
theorem k0_idx48_inb : ∀ (v154 : IVec S16 32) (k0_hw14 : k0_chk14 v154), ∀ a x, ((![v154] : Fin 1 → IVec S16 32) a x).toNat < S16.size a := fun v154 k0_hw14 => k0_hw14.2.2.1
theorem k0_idx49_inb : ∀ (v154 : IVec S16 32) (k0_hw14 : k0_chk14 v154), ∀ a x, ((![v154] : Fin 1 → IVec S16 32) a x).toNat < S16.size a := fun v154 k0_hw14 => k0_hw14.2.2.2.1
theorem k0_idx52_inb : ∀ (v154 : IVec S16 32) (k0_hw14 : k0_chk14 v154), ∀ a x, ((![v154] : Fin 1 → IVec S16 32) a x).toNat < S16.size a := fun v154 k0_hw14 => k0_hw14.2.2.2.2.1
theorem k0_idx53_inb : ∀ (v154 : IVec S16 32) (k0_hw14 : k0_chk14 v154), ∀ a x, ((![v154] : Fin 1 → IVec S16 32) a x).toNat < S16.size a := fun v154 k0_hw14 => k0_hw14.2.2.2.2.2

def k0_chk13 (v20 : IVec S16 32) (v24 : IVec S16 32) (v28 : IVec S16 32) (v150 : IVec S16 32) : Prop :=
  (∀ a x, ((![v150, v20] : Fin 2 → IVec S16 32) a x).toNat < S128x3.size a) ∧
  (∀ a x, ((![v150, v20] : Fin 2 → IVec S16 32) a x).toNat < S128x3.size a) ∧
  (∀ a x, ((![v150, v24] : Fin 2 → IVec S16 32) a x).toNat < S128x3.size a) ∧
  (∀ a x, ((![v150, v24] : Fin 2 → IVec S16 32) a x).toNat < S128x3.size a) ∧
  (∀ a x, ((![v150, v28] : Fin 2 → IVec S16 32) a x).toNat < S128x3.size a) ∧
  (∀ a x, ((![v150, v28] : Fin 2 → IVec S16 32) a x).toNat < S128x3.size a)
theorem k0_idx43_inb : ∀ (v20 : IVec S16 32) (v24 : IVec S16 32) (v28 : IVec S16 32) (v150 : IVec S16 32) (k0_hw13 : k0_chk13 v20 v24 v28 v150), ∀ a x, ((![v150, v20] : Fin 2 → IVec S16 32) a x).toNat < S128x3.size a := fun v20 v24 v28 v150 k0_hw13 => k0_hw13.1
theorem k0_idx46_inb : ∀ (v20 : IVec S16 32) (v24 : IVec S16 32) (v28 : IVec S16 32) (v150 : IVec S16 32) (k0_hw13 : k0_chk13 v20 v24 v28 v150), ∀ a x, ((![v150, v20] : Fin 2 → IVec S16 32) a x).toNat < S128x3.size a := fun v20 v24 v28 v150 k0_hw13 => k0_hw13.2.1
theorem k0_idx47_inb : ∀ (v20 : IVec S16 32) (v24 : IVec S16 32) (v28 : IVec S16 32) (v150 : IVec S16 32) (k0_hw13 : k0_chk13 v20 v24 v28 v150), ∀ a x, ((![v150, v24] : Fin 2 → IVec S16 32) a x).toNat < S128x3.size a := fun v20 v24 v28 v150 k0_hw13 => k0_hw13.2.2.1
theorem k0_idx50_inb : ∀ (v20 : IVec S16 32) (v24 : IVec S16 32) (v28 : IVec S16 32) (v150 : IVec S16 32) (k0_hw13 : k0_chk13 v20 v24 v28 v150), ∀ a x, ((![v150, v24] : Fin 2 → IVec S16 32) a x).toNat < S128x3.size a := fun v20 v24 v28 v150 k0_hw13 => k0_hw13.2.2.2.1
theorem k0_idx51_inb : ∀ (v20 : IVec S16 32) (v24 : IVec S16 32) (v28 : IVec S16 32) (v150 : IVec S16 32) (k0_hw13 : k0_chk13 v20 v24 v28 v150), ∀ a x, ((![v150, v28] : Fin 2 → IVec S16 32) a x).toNat < S128x3.size a := fun v20 v24 v28 v150 k0_hw13 => k0_hw13.2.2.2.2.1
theorem k0_idx54_inb : ∀ (v20 : IVec S16 32) (v24 : IVec S16 32) (v28 : IVec S16 32) (v150 : IVec S16 32) (k0_hw13 : k0_chk13 v20 v24 v28 v150), ∀ a x, ((![v150, v28] : Fin 2 → IVec S16 32) a x).toNat < S128x3.size a := fun v20 v24 v28 v150 k0_hw13 => k0_hw13.2.2.2.2.2
@[reducible] def k0_t5_loop : Scf.Loop 32 :=
  let c0_i32_76 : BitVec 32 := 0#32
  let c8_i32_77 : BitVec 32 := 8#32
  let v109 : BitVec 32 := Scalar.addi c0_i32_76 c8_i32_77
  let c1_i32_78 : BitVec 32 := 1#32
  ⟨c0_i32_76, v109, c1_i32_78⟩
def k0_off9 (k0_t5 : Fin k0_t5_loop.trips) : Fin 1 → Nat :=
  let c512_i32_128 : BitVec 32 := 512#32
  let c0_i32_125 : BitVec 32 := 0#32
  let c0_i32_76 : BitVec 32 := 0#32
  let c1_i32_78 : BitVec 32 := 1#32
  let arg28 : BitVec 32 := Scf.iv c0_i32_76 c1_i32_78 k0_t5
  let c1_i32_124 : BitVec 32 := 1#32
  let v146 : BitVec 32 := Scalar.muli arg28 c1_i32_124
  let v147 : BitVec 32 := Scalar.addi c0_i32_125 v146
  let c16_i32_127 : BitVec 32 := 16#32
  let v151 : BitVec 32 := Scalar.muli v147 c16_i32_127
  let v152 : BitVec 32 := Scalar.addi c512_i32_128 v151
  let v153 : Index := Scalar.indexCast v152
  ![v153.toNat]

def k0_chk16 (v154 : IVec S16 32) : Prop :=
  (∀ a x, ((![v154] : Fin 1 → IVec S16 32) a x).toNat < S16.size a) ∧
  (∀ a x, ((![v154] : Fin 1 → IVec S16 32) a x).toNat < S16.size a) ∧
  (∀ a x, ((![v154] : Fin 1 → IVec S16 32) a x).toNat < S16.size a) ∧
  (∀ a x, ((![v154] : Fin 1 → IVec S16 32) a x).toNat < S16.size a) ∧
  (∀ a x, ((![v154] : Fin 1 → IVec S16 32) a x).toNat < S16.size a) ∧
  (∀ a x, ((![v154] : Fin 1 → IVec S16 32) a x).toNat < S16.size a)
theorem k0_idx56_inb : ∀ (v154 : IVec S16 32) (k0_hw16 : k0_chk16 v154), ∀ a x, ((![v154] : Fin 1 → IVec S16 32) a x).toNat < S16.size a := fun v154 k0_hw16 => k0_hw16.1
theorem k0_idx57_inb : ∀ (v154 : IVec S16 32) (k0_hw16 : k0_chk16 v154), ∀ a x, ((![v154] : Fin 1 → IVec S16 32) a x).toNat < S16.size a := fun v154 k0_hw16 => k0_hw16.2.1
theorem k0_idx60_inb : ∀ (v154 : IVec S16 32) (k0_hw16 : k0_chk16 v154), ∀ a x, ((![v154] : Fin 1 → IVec S16 32) a x).toNat < S16.size a := fun v154 k0_hw16 => k0_hw16.2.2.1
theorem k0_idx61_inb : ∀ (v154 : IVec S16 32) (k0_hw16 : k0_chk16 v154), ∀ a x, ((![v154] : Fin 1 → IVec S16 32) a x).toNat < S16.size a := fun v154 k0_hw16 => k0_hw16.2.2.2.1
theorem k0_idx64_inb : ∀ (v154 : IVec S16 32) (k0_hw16 : k0_chk16 v154), ∀ a x, ((![v154] : Fin 1 → IVec S16 32) a x).toNat < S16.size a := fun v154 k0_hw16 => k0_hw16.2.2.2.2.1
theorem k0_idx65_inb : ∀ (v154 : IVec S16 32) (k0_hw16 : k0_chk16 v154), ∀ a x, ((![v154] : Fin 1 → IVec S16 32) a x).toNat < S16.size a := fun v154 k0_hw16 => k0_hw16.2.2.2.2.2

def k0_chk15 (v20 : IVec S16 32) (v24 : IVec S16 32) (v28 : IVec S16 32) (v150 : IVec S16 32) : Prop :=
  (∀ a x, ((![v150, v20] : Fin 2 → IVec S16 32) a x).toNat < S128x3.size a) ∧
  (∀ a x, ((![v150, v20] : Fin 2 → IVec S16 32) a x).toNat < S128x3.size a) ∧
  (∀ a x, ((![v150, v24] : Fin 2 → IVec S16 32) a x).toNat < S128x3.size a) ∧
  (∀ a x, ((![v150, v24] : Fin 2 → IVec S16 32) a x).toNat < S128x3.size a) ∧
  (∀ a x, ((![v150, v28] : Fin 2 → IVec S16 32) a x).toNat < S128x3.size a) ∧
  (∀ a x, ((![v150, v28] : Fin 2 → IVec S16 32) a x).toNat < S128x3.size a)
theorem k0_idx55_inb : ∀ (v20 : IVec S16 32) (v24 : IVec S16 32) (v28 : IVec S16 32) (v150 : IVec S16 32) (k0_hw15 : k0_chk15 v20 v24 v28 v150), ∀ a x, ((![v150, v20] : Fin 2 → IVec S16 32) a x).toNat < S128x3.size a := fun v20 v24 v28 v150 k0_hw15 => k0_hw15.1
theorem k0_idx58_inb : ∀ (v20 : IVec S16 32) (v24 : IVec S16 32) (v28 : IVec S16 32) (v150 : IVec S16 32) (k0_hw15 : k0_chk15 v20 v24 v28 v150), ∀ a x, ((![v150, v20] : Fin 2 → IVec S16 32) a x).toNat < S128x3.size a := fun v20 v24 v28 v150 k0_hw15 => k0_hw15.2.1
theorem k0_idx59_inb : ∀ (v20 : IVec S16 32) (v24 : IVec S16 32) (v28 : IVec S16 32) (v150 : IVec S16 32) (k0_hw15 : k0_chk15 v20 v24 v28 v150), ∀ a x, ((![v150, v24] : Fin 2 → IVec S16 32) a x).toNat < S128x3.size a := fun v20 v24 v28 v150 k0_hw15 => k0_hw15.2.2.1
theorem k0_idx62_inb : ∀ (v20 : IVec S16 32) (v24 : IVec S16 32) (v28 : IVec S16 32) (v150 : IVec S16 32) (k0_hw15 : k0_chk15 v20 v24 v28 v150), ∀ a x, ((![v150, v24] : Fin 2 → IVec S16 32) a x).toNat < S128x3.size a := fun v20 v24 v28 v150 k0_hw15 => k0_hw15.2.2.2.1
theorem k0_idx63_inb : ∀ (v20 : IVec S16 32) (v24 : IVec S16 32) (v28 : IVec S16 32) (v150 : IVec S16 32) (k0_hw15 : k0_chk15 v20 v24 v28 v150), ∀ a x, ((![v150, v28] : Fin 2 → IVec S16 32) a x).toNat < S128x3.size a := fun v20 v24 v28 v150 k0_hw15 => k0_hw15.2.2.2.2.1
theorem k0_idx66_inb : ∀ (v20 : IVec S16 32) (v24 : IVec S16 32) (v28 : IVec S16 32) (v150 : IVec S16 32) (k0_hw15 : k0_chk15 v20 v24 v28 v150), ∀ a x, ((![v150, v28] : Fin 2 → IVec S16 32) a x).toNat < S128x3.size a := fun v20 v24 v28 v150 k0_hw15 => k0_hw15.2.2.2.2.2
@[reducible] def k0_t6_loop : Scf.Loop 32 :=
  let c0_i32_89 : BitVec 32 := 0#32
  let c8_i32_90 : BitVec 32 := 8#32
  let v120 : BitVec 32 := Scalar.addi c0_i32_89 c8_i32_90
  let c1_i32_91 : BitVec 32 := 1#32
  ⟨c0_i32_89, v120, c1_i32_91⟩
def k0_off10 (k0_t6 : Fin k0_t6_loop.trips) : Fin 1 → Nat :=
  let c640_i32_128 : BitVec 32 := 640#32
  let c0_i32_125 : BitVec 32 := 0#32
  let c0_i32_89 : BitVec 32 := 0#32
  let c1_i32_91 : BitVec 32 := 1#32
  let arg28 : BitVec 32 := Scf.iv c0_i32_89 c1_i32_91 k0_t6
  let c1_i32_124 : BitVec 32 := 1#32
  let v146 : BitVec 32 := Scalar.muli arg28 c1_i32_124
  let v147 : BitVec 32 := Scalar.addi c0_i32_125 v146
  let c16_i32_127 : BitVec 32 := 16#32
  let v151 : BitVec 32 := Scalar.muli v147 c16_i32_127
  let v152 : BitVec 32 := Scalar.addi c640_i32_128 v151
  let v153 : Index := Scalar.indexCast v152
  ![v153.toNat]

def k0_chk18 (v154 : IVec S16 32) : Prop :=
  (∀ a x, ((![v154] : Fin 1 → IVec S16 32) a x).toNat < S16.size a) ∧
  (∀ a x, ((![v154] : Fin 1 → IVec S16 32) a x).toNat < S16.size a) ∧
  (∀ a x, ((![v154] : Fin 1 → IVec S16 32) a x).toNat < S16.size a) ∧
  (∀ a x, ((![v154] : Fin 1 → IVec S16 32) a x).toNat < S16.size a) ∧
  (∀ a x, ((![v154] : Fin 1 → IVec S16 32) a x).toNat < S16.size a) ∧
  (∀ a x, ((![v154] : Fin 1 → IVec S16 32) a x).toNat < S16.size a)
theorem k0_idx68_inb : ∀ (v154 : IVec S16 32) (k0_hw18 : k0_chk18 v154), ∀ a x, ((![v154] : Fin 1 → IVec S16 32) a x).toNat < S16.size a := fun v154 k0_hw18 => k0_hw18.1
theorem k0_idx69_inb : ∀ (v154 : IVec S16 32) (k0_hw18 : k0_chk18 v154), ∀ a x, ((![v154] : Fin 1 → IVec S16 32) a x).toNat < S16.size a := fun v154 k0_hw18 => k0_hw18.2.1
theorem k0_idx72_inb : ∀ (v154 : IVec S16 32) (k0_hw18 : k0_chk18 v154), ∀ a x, ((![v154] : Fin 1 → IVec S16 32) a x).toNat < S16.size a := fun v154 k0_hw18 => k0_hw18.2.2.1
theorem k0_idx73_inb : ∀ (v154 : IVec S16 32) (k0_hw18 : k0_chk18 v154), ∀ a x, ((![v154] : Fin 1 → IVec S16 32) a x).toNat < S16.size a := fun v154 k0_hw18 => k0_hw18.2.2.2.1
theorem k0_idx76_inb : ∀ (v154 : IVec S16 32) (k0_hw18 : k0_chk18 v154), ∀ a x, ((![v154] : Fin 1 → IVec S16 32) a x).toNat < S16.size a := fun v154 k0_hw18 => k0_hw18.2.2.2.2.1
theorem k0_idx77_inb : ∀ (v154 : IVec S16 32) (k0_hw18 : k0_chk18 v154), ∀ a x, ((![v154] : Fin 1 → IVec S16 32) a x).toNat < S16.size a := fun v154 k0_hw18 => k0_hw18.2.2.2.2.2

def k0_chk17 (v20 : IVec S16 32) (v24 : IVec S16 32) (v28 : IVec S16 32) (v150 : IVec S16 32) : Prop :=
  (∀ a x, ((![v150, v20] : Fin 2 → IVec S16 32) a x).toNat < S128x3.size a) ∧
  (∀ a x, ((![v150, v20] : Fin 2 → IVec S16 32) a x).toNat < S128x3.size a) ∧
  (∀ a x, ((![v150, v24] : Fin 2 → IVec S16 32) a x).toNat < S128x3.size a) ∧
  (∀ a x, ((![v150, v24] : Fin 2 → IVec S16 32) a x).toNat < S128x3.size a) ∧
  (∀ a x, ((![v150, v28] : Fin 2 → IVec S16 32) a x).toNat < S128x3.size a) ∧
  (∀ a x, ((![v150, v28] : Fin 2 → IVec S16 32) a x).toNat < S128x3.size a)
theorem k0_idx67_inb : ∀ (v20 : IVec S16 32) (v24 : IVec S16 32) (v28 : IVec S16 32) (v150 : IVec S16 32) (k0_hw17 : k0_chk17 v20 v24 v28 v150), ∀ a x, ((![v150, v20] : Fin 2 → IVec S16 32) a x).toNat < S128x3.size a := fun v20 v24 v28 v150 k0_hw17 => k0_hw17.1
theorem k0_idx70_inb : ∀ (v20 : IVec S16 32) (v24 : IVec S16 32) (v28 : IVec S16 32) (v150 : IVec S16 32) (k0_hw17 : k0_chk17 v20 v24 v28 v150), ∀ a x, ((![v150, v20] : Fin 2 → IVec S16 32) a x).toNat < S128x3.size a := fun v20 v24 v28 v150 k0_hw17 => k0_hw17.2.1
theorem k0_idx71_inb : ∀ (v20 : IVec S16 32) (v24 : IVec S16 32) (v28 : IVec S16 32) (v150 : IVec S16 32) (k0_hw17 : k0_chk17 v20 v24 v28 v150), ∀ a x, ((![v150, v24] : Fin 2 → IVec S16 32) a x).toNat < S128x3.size a := fun v20 v24 v28 v150 k0_hw17 => k0_hw17.2.2.1
theorem k0_idx74_inb : ∀ (v20 : IVec S16 32) (v24 : IVec S16 32) (v28 : IVec S16 32) (v150 : IVec S16 32) (k0_hw17 : k0_chk17 v20 v24 v28 v150), ∀ a x, ((![v150, v24] : Fin 2 → IVec S16 32) a x).toNat < S128x3.size a := fun v20 v24 v28 v150 k0_hw17 => k0_hw17.2.2.2.1
theorem k0_idx75_inb : ∀ (v20 : IVec S16 32) (v24 : IVec S16 32) (v28 : IVec S16 32) (v150 : IVec S16 32) (k0_hw17 : k0_chk17 v20 v24 v28 v150), ∀ a x, ((![v150, v28] : Fin 2 → IVec S16 32) a x).toNat < S128x3.size a := fun v20 v24 v28 v150 k0_hw17 => k0_hw17.2.2.2.2.1
theorem k0_idx78_inb : ∀ (v20 : IVec S16 32) (v24 : IVec S16 32) (v28 : IVec S16 32) (v150 : IVec S16 32) (k0_hw17 : k0_chk17 v20 v24 v28 v150), ∀ a x, ((![v150, v28] : Fin 2 → IVec S16 32) a x).toNat < S128x3.size a := fun v20 v24 v28 v150 k0_hw17 => k0_hw17.2.2.2.2.2
@[reducible] def k0_t7_loop : Scf.Loop 32 :=
  let c0_i32_100 : BitVec 32 := 0#32
  let c8_i32_101 : BitVec 32 := 8#32
  let v128 : BitVec 32 := Scalar.addi c0_i32_100 c8_i32_101
  let c1_i32_102 : BitVec 32 := 1#32
  ⟨c0_i32_100, v128, c1_i32_102⟩
def k0_off11 (k0_t7 : Fin k0_t7_loop.trips) : Fin 1 → Nat :=
  let c768_i32_128 : BitVec 32 := 768#32
  let c0_i32_125 : BitVec 32 := 0#32
  let c0_i32_100 : BitVec 32 := 0#32
  let c1_i32_102 : BitVec 32 := 1#32
  let arg28 : BitVec 32 := Scf.iv c0_i32_100 c1_i32_102 k0_t7
  let c1_i32_124 : BitVec 32 := 1#32
  let v146 : BitVec 32 := Scalar.muli arg28 c1_i32_124
  let v147 : BitVec 32 := Scalar.addi c0_i32_125 v146
  let c16_i32_127 : BitVec 32 := 16#32
  let v151 : BitVec 32 := Scalar.muli v147 c16_i32_127
  let v152 : BitVec 32 := Scalar.addi c768_i32_128 v151
  let v153 : Index := Scalar.indexCast v152
  ![v153.toNat]

def k0_chk20 (v154 : IVec S16 32) : Prop :=
  (∀ a x, ((![v154] : Fin 1 → IVec S16 32) a x).toNat < S16.size a) ∧
  (∀ a x, ((![v154] : Fin 1 → IVec S16 32) a x).toNat < S16.size a) ∧
  (∀ a x, ((![v154] : Fin 1 → IVec S16 32) a x).toNat < S16.size a) ∧
  (∀ a x, ((![v154] : Fin 1 → IVec S16 32) a x).toNat < S16.size a) ∧
  (∀ a x, ((![v154] : Fin 1 → IVec S16 32) a x).toNat < S16.size a) ∧
  (∀ a x, ((![v154] : Fin 1 → IVec S16 32) a x).toNat < S16.size a)
theorem k0_idx80_inb : ∀ (v154 : IVec S16 32) (k0_hw20 : k0_chk20 v154), ∀ a x, ((![v154] : Fin 1 → IVec S16 32) a x).toNat < S16.size a := fun v154 k0_hw20 => k0_hw20.1
theorem k0_idx81_inb : ∀ (v154 : IVec S16 32) (k0_hw20 : k0_chk20 v154), ∀ a x, ((![v154] : Fin 1 → IVec S16 32) a x).toNat < S16.size a := fun v154 k0_hw20 => k0_hw20.2.1
theorem k0_idx84_inb : ∀ (v154 : IVec S16 32) (k0_hw20 : k0_chk20 v154), ∀ a x, ((![v154] : Fin 1 → IVec S16 32) a x).toNat < S16.size a := fun v154 k0_hw20 => k0_hw20.2.2.1
theorem k0_idx85_inb : ∀ (v154 : IVec S16 32) (k0_hw20 : k0_chk20 v154), ∀ a x, ((![v154] : Fin 1 → IVec S16 32) a x).toNat < S16.size a := fun v154 k0_hw20 => k0_hw20.2.2.2.1
theorem k0_idx88_inb : ∀ (v154 : IVec S16 32) (k0_hw20 : k0_chk20 v154), ∀ a x, ((![v154] : Fin 1 → IVec S16 32) a x).toNat < S16.size a := fun v154 k0_hw20 => k0_hw20.2.2.2.2.1
theorem k0_idx89_inb : ∀ (v154 : IVec S16 32) (k0_hw20 : k0_chk20 v154), ∀ a x, ((![v154] : Fin 1 → IVec S16 32) a x).toNat < S16.size a := fun v154 k0_hw20 => k0_hw20.2.2.2.2.2

def k0_chk19 (v20 : IVec S16 32) (v24 : IVec S16 32) (v28 : IVec S16 32) (v150 : IVec S16 32) : Prop :=
  (∀ a x, ((![v150, v20] : Fin 2 → IVec S16 32) a x).toNat < S128x3.size a) ∧
  (∀ a x, ((![v150, v20] : Fin 2 → IVec S16 32) a x).toNat < S128x3.size a) ∧
  (∀ a x, ((![v150, v24] : Fin 2 → IVec S16 32) a x).toNat < S128x3.size a) ∧
  (∀ a x, ((![v150, v24] : Fin 2 → IVec S16 32) a x).toNat < S128x3.size a) ∧
  (∀ a x, ((![v150, v28] : Fin 2 → IVec S16 32) a x).toNat < S128x3.size a) ∧
  (∀ a x, ((![v150, v28] : Fin 2 → IVec S16 32) a x).toNat < S128x3.size a)
theorem k0_idx79_inb : ∀ (v20 : IVec S16 32) (v24 : IVec S16 32) (v28 : IVec S16 32) (v150 : IVec S16 32) (k0_hw19 : k0_chk19 v20 v24 v28 v150), ∀ a x, ((![v150, v20] : Fin 2 → IVec S16 32) a x).toNat < S128x3.size a := fun v20 v24 v28 v150 k0_hw19 => k0_hw19.1
theorem k0_idx82_inb : ∀ (v20 : IVec S16 32) (v24 : IVec S16 32) (v28 : IVec S16 32) (v150 : IVec S16 32) (k0_hw19 : k0_chk19 v20 v24 v28 v150), ∀ a x, ((![v150, v20] : Fin 2 → IVec S16 32) a x).toNat < S128x3.size a := fun v20 v24 v28 v150 k0_hw19 => k0_hw19.2.1
theorem k0_idx83_inb : ∀ (v20 : IVec S16 32) (v24 : IVec S16 32) (v28 : IVec S16 32) (v150 : IVec S16 32) (k0_hw19 : k0_chk19 v20 v24 v28 v150), ∀ a x, ((![v150, v24] : Fin 2 → IVec S16 32) a x).toNat < S128x3.size a := fun v20 v24 v28 v150 k0_hw19 => k0_hw19.2.2.1
theorem k0_idx86_inb : ∀ (v20 : IVec S16 32) (v24 : IVec S16 32) (v28 : IVec S16 32) (v150 : IVec S16 32) (k0_hw19 : k0_chk19 v20 v24 v28 v150), ∀ a x, ((![v150, v24] : Fin 2 → IVec S16 32) a x).toNat < S128x3.size a := fun v20 v24 v28 v150 k0_hw19 => k0_hw19.2.2.2.1
theorem k0_idx87_inb : ∀ (v20 : IVec S16 32) (v24 : IVec S16 32) (v28 : IVec S16 32) (v150 : IVec S16 32) (k0_hw19 : k0_chk19 v20 v24 v28 v150), ∀ a x, ((![v150, v28] : Fin 2 → IVec S16 32) a x).toNat < S128x3.size a := fun v20 v24 v28 v150 k0_hw19 => k0_hw19.2.2.2.2.1
theorem k0_idx90_inb : ∀ (v20 : IVec S16 32) (v24 : IVec S16 32) (v28 : IVec S16 32) (v150 : IVec S16 32) (k0_hw19 : k0_chk19 v20 v24 v28 v150), ∀ a x, ((![v150, v28] : Fin 2 → IVec S16 32) a x).toNat < S128x3.size a := fun v20 v24 v28 v150 k0_hw19 => k0_hw19.2.2.2.2.2
@[reducible] def k0_t8_loop : Scf.Loop 32 :=
  let c0_i32_111 : BitVec 32 := 0#32
  let c8_i32_112 : BitVec 32 := 8#32
  let v136 : BitVec 32 := Scalar.addi c0_i32_111 c8_i32_112
  let c1_i32_113 : BitVec 32 := 1#32
  ⟨c0_i32_111, v136, c1_i32_113⟩
def k0_off12 (k0_t8 : Fin k0_t8_loop.trips) : Fin 1 → Nat :=
  let c896_i32_128 : BitVec 32 := 896#32
  let c0_i32_125 : BitVec 32 := 0#32
  let c0_i32_111 : BitVec 32 := 0#32
  let c1_i32_113 : BitVec 32 := 1#32
  let arg28 : BitVec 32 := Scf.iv c0_i32_111 c1_i32_113 k0_t8
  let c1_i32_124 : BitVec 32 := 1#32
  let v146 : BitVec 32 := Scalar.muli arg28 c1_i32_124
  let v147 : BitVec 32 := Scalar.addi c0_i32_125 v146
  let c16_i32_127 : BitVec 32 := 16#32
  let v151 : BitVec 32 := Scalar.muli v147 c16_i32_127
  let v152 : BitVec 32 := Scalar.addi c896_i32_128 v151
  let v153 : Index := Scalar.indexCast v152
  ![v153.toNat]

def k0_chk22 (v154 : IVec S16 32) : Prop :=
  (∀ a x, ((![v154] : Fin 1 → IVec S16 32) a x).toNat < S16.size a) ∧
  (∀ a x, ((![v154] : Fin 1 → IVec S16 32) a x).toNat < S16.size a) ∧
  (∀ a x, ((![v154] : Fin 1 → IVec S16 32) a x).toNat < S16.size a) ∧
  (∀ a x, ((![v154] : Fin 1 → IVec S16 32) a x).toNat < S16.size a) ∧
  (∀ a x, ((![v154] : Fin 1 → IVec S16 32) a x).toNat < S16.size a) ∧
  (∀ a x, ((![v154] : Fin 1 → IVec S16 32) a x).toNat < S16.size a)
theorem k0_idx92_inb : ∀ (v154 : IVec S16 32) (k0_hw22 : k0_chk22 v154), ∀ a x, ((![v154] : Fin 1 → IVec S16 32) a x).toNat < S16.size a := fun v154 k0_hw22 => k0_hw22.1
theorem k0_idx93_inb : ∀ (v154 : IVec S16 32) (k0_hw22 : k0_chk22 v154), ∀ a x, ((![v154] : Fin 1 → IVec S16 32) a x).toNat < S16.size a := fun v154 k0_hw22 => k0_hw22.2.1
theorem k0_idx96_inb : ∀ (v154 : IVec S16 32) (k0_hw22 : k0_chk22 v154), ∀ a x, ((![v154] : Fin 1 → IVec S16 32) a x).toNat < S16.size a := fun v154 k0_hw22 => k0_hw22.2.2.1
theorem k0_idx97_inb : ∀ (v154 : IVec S16 32) (k0_hw22 : k0_chk22 v154), ∀ a x, ((![v154] : Fin 1 → IVec S16 32) a x).toNat < S16.size a := fun v154 k0_hw22 => k0_hw22.2.2.2.1
theorem k0_idx100_inb : ∀ (v154 : IVec S16 32) (k0_hw22 : k0_chk22 v154), ∀ a x, ((![v154] : Fin 1 → IVec S16 32) a x).toNat < S16.size a := fun v154 k0_hw22 => k0_hw22.2.2.2.2.1
theorem k0_idx101_inb : ∀ (v154 : IVec S16 32) (k0_hw22 : k0_chk22 v154), ∀ a x, ((![v154] : Fin 1 → IVec S16 32) a x).toNat < S16.size a := fun v154 k0_hw22 => k0_hw22.2.2.2.2.2

def k0_chk21 (v20 : IVec S16 32) (v24 : IVec S16 32) (v28 : IVec S16 32) (v150 : IVec S16 32) : Prop :=
  (∀ a x, ((![v150, v20] : Fin 2 → IVec S16 32) a x).toNat < S128x3.size a) ∧
  (∀ a x, ((![v150, v20] : Fin 2 → IVec S16 32) a x).toNat < S128x3.size a) ∧
  (∀ a x, ((![v150, v24] : Fin 2 → IVec S16 32) a x).toNat < S128x3.size a) ∧
  (∀ a x, ((![v150, v24] : Fin 2 → IVec S16 32) a x).toNat < S128x3.size a) ∧
  (∀ a x, ((![v150, v28] : Fin 2 → IVec S16 32) a x).toNat < S128x3.size a) ∧
  (∀ a x, ((![v150, v28] : Fin 2 → IVec S16 32) a x).toNat < S128x3.size a)
theorem k0_idx91_inb : ∀ (v20 : IVec S16 32) (v24 : IVec S16 32) (v28 : IVec S16 32) (v150 : IVec S16 32) (k0_hw21 : k0_chk21 v20 v24 v28 v150), ∀ a x, ((![v150, v20] : Fin 2 → IVec S16 32) a x).toNat < S128x3.size a := fun v20 v24 v28 v150 k0_hw21 => k0_hw21.1
theorem k0_idx94_inb : ∀ (v20 : IVec S16 32) (v24 : IVec S16 32) (v28 : IVec S16 32) (v150 : IVec S16 32) (k0_hw21 : k0_chk21 v20 v24 v28 v150), ∀ a x, ((![v150, v20] : Fin 2 → IVec S16 32) a x).toNat < S128x3.size a := fun v20 v24 v28 v150 k0_hw21 => k0_hw21.2.1
theorem k0_idx95_inb : ∀ (v20 : IVec S16 32) (v24 : IVec S16 32) (v28 : IVec S16 32) (v150 : IVec S16 32) (k0_hw21 : k0_chk21 v20 v24 v28 v150), ∀ a x, ((![v150, v24] : Fin 2 → IVec S16 32) a x).toNat < S128x3.size a := fun v20 v24 v28 v150 k0_hw21 => k0_hw21.2.2.1
theorem k0_idx98_inb : ∀ (v20 : IVec S16 32) (v24 : IVec S16 32) (v28 : IVec S16 32) (v150 : IVec S16 32) (k0_hw21 : k0_chk21 v20 v24 v28 v150), ∀ a x, ((![v150, v24] : Fin 2 → IVec S16 32) a x).toNat < S128x3.size a := fun v20 v24 v28 v150 k0_hw21 => k0_hw21.2.2.2.1
theorem k0_idx99_inb : ∀ (v20 : IVec S16 32) (v24 : IVec S16 32) (v28 : IVec S16 32) (v150 : IVec S16 32) (k0_hw21 : k0_chk21 v20 v24 v28 v150), ∀ a x, ((![v150, v28] : Fin 2 → IVec S16 32) a x).toNat < S128x3.size a := fun v20 v24 v28 v150 k0_hw21 => k0_hw21.2.2.2.2.1
theorem k0_idx102_inb : ∀ (v20 : IVec S16 32) (v24 : IVec S16 32) (v28 : IVec S16 32) (v150 : IVec S16 32) (k0_hw21 : k0_chk21 v20 v24 v28 v150), ∀ a x, ((![v150, v28] : Fin 2 → IVec S16 32) a x).toNat < S128x3.size a := fun v20 v24 v28 v150 k0_hw21 => k0_hw21.2.2.2.2.2
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S32768x3 : Shape := ⟨2, ![32768, 3]⟩
abbrev S32768 : Shape := ⟨1, ![32768]⟩
abbrev S32768x2 : Shape := ⟨2, ![32768, 2]⟩
abbrev S16x3 : Shape := ⟨2, ![16, 3]⟩
abbrev S_ : Shape := ⟨0, ![]⟩
abbrev S32768x1 : Shape := ⟨2, ![32768, 1]⟩
abbrev S1 : Shape := ⟨1, ![1]⟩
abbrev S1x1 : Shape := ⟨2, ![1, 1]⟩
abbrev S32767 : Shape := ⟨1, ![32767]⟩

abbrev nBuf : Space → Nat
  | .hbm => 180
  | .vmem => 0
  | .smem => 0
  | _ => 0

abbrev hbmTy0_0 (i : Nat) : BufTy := match i % 128 with
  | 0 => ⟨S32768x3, .f32⟩
  | 1 => ⟨S32768, .i32⟩
  | 2 => ⟨S32768x2, .i32⟩
  | 3 => ⟨S16x3, .f32⟩
  | 4 => ⟨S16x3, .f32⟩
  | 5 => ⟨S_, .i32⟩
  | 6 => ⟨S32768, .i32⟩
  | 7 => ⟨S32768, .i1⟩
  | 8 => ⟨S_, .i32⟩
  | 9 => ⟨S32768, .i32⟩
  | 10 => ⟨S32768, .i32⟩
  | 11 => ⟨S32768, .i32⟩
  | 12 => ⟨S32768x1, .i32⟩
  | 13 => ⟨S1, .i32⟩
  | 14 => ⟨S_, .i32⟩
  | 15 => ⟨S32768x1, .i32⟩
  | 16 => ⟨S32768x1, .i1⟩
  | 17 => ⟨S1x1, .i32⟩
  | 18 => ⟨S32768x1, .i32⟩
  | 19 => ⟨S32768x1, .i1⟩
  | 20 => ⟨S32768x1, .i1⟩
  | 21 => ⟨S_, .i1⟩
  | 22 => ⟨S32768, .i1⟩
  | 23 => ⟨S32768x3, .f32⟩
  | 24 => ⟨S32768x3, .i1⟩
  | 25 => ⟨S_, .f32⟩
  | 26 => ⟨S32768x3, .f32⟩
  | 27 => ⟨S32768x3, .f32⟩
  | 28 => ⟨S_, .f32⟩
  | 29 => ⟨S32768x3, .f32⟩
  | 30 => ⟨S32768x3, .f32⟩
  | 31 => ⟨S_, .i32⟩
  | 32 => ⟨S32768, .i32⟩
  | 33 => ⟨S32768, .i1⟩
  | 34 => ⟨S_, .i32⟩
  | 35 => ⟨S32768, .i32⟩
  | 36 => ⟨S32768, .i32⟩
  | 37 => ⟨S32768, .i32⟩
  | 38 => ⟨S32768x1, .i32⟩
  | 39 => ⟨S1, .i32⟩
  | 40 => ⟨S_, .i32⟩
  | 41 => ⟨S32768x1, .i32⟩
  | 42 => ⟨S32768x1, .i1⟩
  | 43 => ⟨S1x1, .i32⟩
  | 44 => ⟨S32768x1, .i32⟩
  | 45 => ⟨S32768x1, .i1⟩
  | 46 => ⟨S32768x1, .i1⟩
  | 47 => ⟨S_, .i1⟩
  | 48 => ⟨S32768, .i1⟩
  | 49 => ⟨S32768x3, .f32⟩
  | 50 => ⟨S32768x3, .i1⟩
  | 51 => ⟨S_, .f32⟩
  | 52 => ⟨S32768x3, .f32⟩
  | 53 => ⟨S32768x3, .f32⟩
  | 54 => ⟨S_, .i32⟩
  | 55 => ⟨S32768, .i32⟩
  | 56 => ⟨S32768, .i1⟩
  | 57 => ⟨S32768x1, .i1⟩
  | 58 => ⟨S_, .f32⟩
  | 59 => ⟨S_, .f32⟩
  | 60 => ⟨S32768x3, .i1⟩
  | 61 => ⟨S32768x3, .f32⟩
  | 62 => ⟨S32768x3, .f32⟩
  | 63 => ⟨S32768x1, .i1⟩
  | 64 => ⟨S_, .f32⟩
  | 65 => ⟨S_, .f32⟩
  | 66 => ⟨S32768x3, .i1⟩
  | 67 => ⟨S32768x3, .f32⟩
  | 68 => ⟨S32768x3, .f32⟩
  | 69 => ⟨S32768x1, .i32⟩
  | 70 => ⟨S32768, .i32⟩
  | 71 => ⟨S32768x1, .i32⟩
  | 72 => ⟨S32768, .i32⟩
  | 73 => ⟨S32768, .i32⟩
  | 74 => ⟨S1, .i32⟩
  | 75 => ⟨S32767, .i32⟩
  | 76 => ⟨S32768, .i32⟩
  | 77 => ⟨S_, .i32⟩
  | 78 => ⟨S1, .i32⟩
  | 79 => ⟨S_, .i32⟩
  | 80 => ⟨S32768, .i32⟩
  | 81 => ⟨S_, .i32⟩
  | 82 => ⟨S_, .i32⟩
  | 83 => ⟨S32768, .i32⟩
  | 84 => ⟨S_, .i32⟩
  | 85 => ⟨S32768, .i32⟩
  | 86 => ⟨S_, .i32⟩
  | 87 => ⟨S32768, .i32⟩
  | 88 => ⟨S32768, .i1⟩
  | 89 => ⟨S_, .i32⟩
  | 90 => ⟨S32768, .i32⟩
  | 91 => ⟨S32768, .i32⟩
  | 92 => ⟨S32768, .i32⟩
  | 93 => ⟨S32768x1, .i32⟩
  | 94 => ⟨S_, .i32⟩
  | 95 => ⟨S32768, .i32⟩
  | 96 => ⟨S32768, .i32⟩
  | 97 => ⟨S_, .i32⟩
  | 98 => ⟨S_, .i32⟩
  | 99 => ⟨S32768, .i32⟩
  | 100 => ⟨S_, .i32⟩
  | 101 => ⟨S32768, .i32⟩
  | 102 => ⟨S32768, .i32⟩
  | 103 => ⟨S_, .i32⟩
  | 104 => ⟨S32768, .i32⟩
  | 105 => ⟨S32768, .i1⟩
  | 106 => ⟨S_, .i32⟩
  | 107 => ⟨S32768, .i32⟩
  | 108 => ⟨S32768, .i32⟩
  | 109 => ⟨S32768, .i32⟩
  | 110 => ⟨S32768x1, .i32⟩
  | 111 => ⟨S1, .i32⟩
  | 112 => ⟨S_, .i32⟩
  | 113 => ⟨S32768x1, .i32⟩
  | 114 => ⟨S32768x1, .i1⟩
  | 115 => ⟨S1x1, .i32⟩
  | 116 => ⟨S32768x1, .i32⟩
  | 117 => ⟨S32768x1, .i1⟩
  | 118 => ⟨S32768x1, .i1⟩
  | 119 => ⟨S_, .i1⟩
  | 120 => ⟨S32768, .i1⟩
  | 121 => ⟨S32768x3, .f32⟩
  | 122 => ⟨S32768x3, .i1⟩
  | 123 => ⟨S_, .f32⟩
  | 124 => ⟨S32768x3, .f32⟩
  | 125 => ⟨S32768x3, .f32⟩
  | 126 => ⟨S1, .i32⟩
  | 127 => ⟨S32767, .i32⟩
  | _ => ⟨S32768x3, .f32⟩

abbrev hbmTy0_1 (i : Nat) : BufTy := match i % 128 with
  | 0 => ⟨S32768, .i32⟩
  | 1 => ⟨S_, .i32⟩
  | 2 => ⟨S1, .i32⟩
  | 3 => ⟨S_, .i32⟩
  | 4 => ⟨S32768, .i32⟩
  | 5 => ⟨S_, .i32⟩
  | 6 => ⟨S_, .i32⟩
  | 7 => ⟨S32768, .i32⟩
  | 8 => ⟨S_, .i32⟩
  | 9 => ⟨S32768, .i32⟩
  | 10 => ⟨S_, .i32⟩
  | 11 => ⟨S32768, .i32⟩
  | 12 => ⟨S32768, .i1⟩
  | 13 => ⟨S_, .i32⟩
  | 14 => ⟨S32768, .i32⟩
  | 15 => ⟨S32768, .i32⟩
  | 16 => ⟨S32768, .i32⟩
  | 17 => ⟨S32768x1, .i32⟩
  | 18 => ⟨S_, .i32⟩
  | 19 => ⟨S32768, .i32⟩
  | 20 => ⟨S32768, .i32⟩
  | 21 => ⟨S_, .i32⟩
  | 22 => ⟨S_, .i32⟩
  | 23 => ⟨S32768, .i32⟩
  | 24 => ⟨S_, .i32⟩
  | 25 => ⟨S32768, .i32⟩
  | 26 => ⟨S32768, .i32⟩
  | 27 => ⟨S_, .i32⟩
  | 28 => ⟨S32768, .i32⟩
  | 29 => ⟨S32768, .i1⟩
  | 30 => ⟨S_, .i32⟩
  | 31 => ⟨S32768, .i32⟩
  | 32 => ⟨S32768, .i32⟩
  | 33 => ⟨S32768, .i32⟩
  | 34 => ⟨S32768x1, .i32⟩
  | 35 => ⟨S1, .i32⟩
  | 36 => ⟨S_, .i32⟩
  | 37 => ⟨S32768x1, .i32⟩
  | 38 => ⟨S32768x1, .i1⟩
  | 39 => ⟨S1x1, .i32⟩
  | 40 => ⟨S32768x1, .i32⟩
  | 41 => ⟨S32768x1, .i1⟩
  | 42 => ⟨S32768x1, .i1⟩
  | 43 => ⟨S_, .i1⟩
  | 44 => ⟨S32768, .i1⟩
  | 45 => ⟨S32768x3, .f32⟩
  | 46 => ⟨S32768x3, .i1⟩
  | 47 => ⟨S_, .f32⟩
  | 48 => ⟨S32768x3, .f32⟩
  | 49 => ⟨S32768x3, .f32⟩
  | 50 => ⟨S32768x3, .f32⟩
  | 51 => ⟨S32768x3, .f32⟩
  | _ => ⟨S32768x3, .f32⟩

abbrev hbmTy (i : Nat) : BufTy := match i / 128 with
  | 0 => hbmTy0_0 i
  | 1 => hbmTy0_1 i
  | _ => ⟨S32768x3, .f32⟩

abbrev bufTy : (tb : Table) → Fin (tcTables nBuf tb) → BufTy
  | .hbm, ⟨i, _⟩ => hbmTy i
  | _, _ => ⟨S32768x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_c : Ref sig .tc := ⟨.hbm, 5, rfl⟩
abbrev main_call0_v0 : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_c_1 : Ref sig .tc := ⟨.hbm, 13, rfl⟩
abbrev main_call0_c_2 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_3 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_call0_cst : Ref sig .tc := ⟨.hbm, 25, rfl⟩
abbrev main_call0_v15 : Ref sig .tc := ⟨.hbm, 26, rfl⟩
abbrev main_v0 : Ref sig .tc := ⟨.hbm, 27, rfl⟩
abbrev main_cst : Ref sig .tc := ⟨.hbm, 28, rfl⟩
abbrev main_v1 : Ref sig .tc := ⟨.hbm, 29, rfl⟩
abbrev main_v2 : Ref sig .tc := ⟨.hbm, 30, rfl⟩
abbrev main_call1_c : Ref sig .tc := ⟨.hbm, 31, rfl⟩
abbrev main_call1_v0 : Ref sig .tc := ⟨.hbm, 32, rfl⟩
abbrev main_call1_v1 : Ref sig .tc := ⟨.hbm, 33, rfl⟩
abbrev main_call1_c_0 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_call1_v5 : Ref sig .tc := ⟨.hbm, 38, rfl⟩
abbrev main_call1_c_1 : Ref sig .tc := ⟨.hbm, 39, rfl⟩
abbrev main_call1_c_2 : Ref sig .tc := ⟨.hbm, 40, rfl⟩
abbrev main_call1_v6 : Ref sig .tc := ⟨.hbm, 41, rfl⟩
abbrev main_call1_v7 : Ref sig .tc := ⟨.hbm, 42, rfl⟩
abbrev main_call1_v8 : Ref sig .tc := ⟨.hbm, 43, rfl⟩
abbrev main_call1_v9 : Ref sig .tc := ⟨.hbm, 44, rfl⟩
abbrev main_call1_v10 : Ref sig .tc := ⟨.hbm, 45, rfl⟩
abbrev main_call1_v11 : Ref sig .tc := ⟨.hbm, 46, rfl⟩
abbrev main_call1_c_3 : Ref sig .tc := ⟨.hbm, 47, rfl⟩
abbrev main_call1_v12 : Ref sig .tc := ⟨.hbm, 48, rfl⟩
abbrev main_call1_v13 : Ref sig .tc := ⟨.hbm, 49, rfl⟩
abbrev main_call1_v14 : Ref sig .tc := ⟨.hbm, 50, rfl⟩
abbrev main_call1_cst : Ref sig .tc := ⟨.hbm, 51, rfl⟩
abbrev main_call1_v15 : Ref sig .tc := ⟨.hbm, 52, rfl⟩
abbrev main_v3 : Ref sig .tc := ⟨.hbm, 53, rfl⟩
abbrev main_c : Ref sig .tc := ⟨.hbm, 54, rfl⟩
abbrev main_v4 : Ref sig .tc := ⟨.hbm, 55, rfl⟩
abbrev main_v5 : Ref sig .tc := ⟨.hbm, 56, rfl⟩
abbrev main_v6 : Ref sig .tc := ⟨.hbm, 57, rfl⟩
abbrev main_cst_0 : Ref sig .tc := ⟨.hbm, 58, rfl⟩
abbrev main_call2_v0 : Ref sig .tc := ⟨.hbm, 59, rfl⟩
abbrev main_call2_v1 : Ref sig .tc := ⟨.hbm, 60, rfl⟩
abbrev main_call2_v2 : Ref sig .tc := ⟨.hbm, 61, rfl⟩
abbrev main_v7 : Ref sig .tc := ⟨.hbm, 62, rfl⟩
abbrev main_v8 : Ref sig .tc := ⟨.hbm, 63, rfl⟩
abbrev main_cst_1 : Ref sig .tc := ⟨.hbm, 64, rfl⟩
abbrev main_call3_v0 : Ref sig .tc := ⟨.hbm, 65, rfl⟩
abbrev main_call3_v1 : Ref sig .tc := ⟨.hbm, 66, rfl⟩
abbrev main_call3_v2 : Ref sig .tc := ⟨.hbm, 67, rfl⟩
abbrev main_v9 : Ref sig .tc := ⟨.hbm, 68, rfl⟩
abbrev main_v10 : Ref sig .tc := ⟨.hbm, 69, rfl⟩
abbrev main_v11 : Ref sig .tc := ⟨.hbm, 70, rfl⟩
abbrev main_v12 : Ref sig .tc := ⟨.hbm, 71, rfl⟩
abbrev main_v13 : Ref sig .tc := ⟨.hbm, 72, rfl⟩
abbrev main_v14 : Ref sig .tc := ⟨.hbm, 73, rfl⟩
abbrev main_call4_v0 : Ref sig .tc := ⟨.hbm, 74, rfl⟩
abbrev main_call4_v1 : Ref sig .tc := ⟨.hbm, 75, rfl⟩
abbrev main_v15 : Ref sig .tc := ⟨.hbm, 76, rfl⟩
abbrev main_c_2 : Ref sig .tc := ⟨.hbm, 77, rfl⟩
abbrev main_v16 : Ref sig .tc := ⟨.hbm, 78, rfl⟩
abbrev main_c_3 : Ref sig .tc := ⟨.hbm, 79, rfl⟩
abbrev main_v17 : Ref sig .tc := ⟨.hbm, 80, rfl⟩
abbrev main_call5_call0_c : Ref sig .tc := ⟨.hbm, 81, rfl⟩
abbrev main_call5_call0_v0 : Ref sig .tc := ⟨.hbm, 82, rfl⟩
abbrev main_v18 : Ref sig .tc := ⟨.hbm, 83, rfl⟩
abbrev main_c_4 : Ref sig .tc := ⟨.hbm, 84, rfl⟩
abbrev main_v19 : Ref sig .tc := ⟨.hbm, 85, rfl⟩
abbrev main_c_5 : Ref sig .tc := ⟨.hbm, 86, rfl⟩
abbrev main_v20 : Ref sig .tc := ⟨.hbm, 87, rfl⟩
abbrev main_v21 : Ref sig .tc := ⟨.hbm, 88, rfl⟩
abbrev main_c_6 : Ref sig .tc := ⟨.hbm, 89, rfl⟩
abbrev main_v22 : Ref sig .tc := ⟨.hbm, 90, rfl⟩
abbrev main_v23 : Ref sig .tc := ⟨.hbm, 91, rfl⟩
abbrev main_v24 : Ref sig .tc := ⟨.hbm, 92, rfl⟩
abbrev main_v25 : Ref sig .tc := ⟨.hbm, 93, rfl⟩
abbrev main_c_7 : Ref sig .tc := ⟨.hbm, 94, rfl⟩
abbrev main_v26 : Ref sig .tc := ⟨.hbm, 95, rfl⟩
abbrev main_v27 : Ref sig .tc := ⟨.hbm, 96, rfl⟩
abbrev main_call6_call0_c : Ref sig .tc := ⟨.hbm, 97, rfl⟩
abbrev main_call6_call0_v0 : Ref sig .tc := ⟨.hbm, 98, rfl⟩
abbrev main_v28 : Ref sig .tc := ⟨.hbm, 99, rfl⟩
abbrev main_c_8 : Ref sig .tc := ⟨.hbm, 100, rfl⟩
abbrev main_v29 : Ref sig .tc := ⟨.hbm, 101, rfl⟩
abbrev main_v30 : Ref sig .tc := ⟨.hbm, 102, rfl⟩
abbrev main_call7_c : Ref sig .tc := ⟨.hbm, 103, rfl⟩
abbrev main_call7_v0 : Ref sig .tc := ⟨.hbm, 104, rfl⟩
abbrev main_call7_v1 : Ref sig .tc := ⟨.hbm, 105, rfl⟩
abbrev main_call7_c_0 : Ref sig .tc := ⟨.hbm, 106, rfl⟩
abbrev main_call7_v2 : Ref sig .tc := ⟨.hbm, 107, rfl⟩
abbrev main_call7_v3 : Ref sig .tc := ⟨.hbm, 108, rfl⟩
abbrev main_call7_v4 : Ref sig .tc := ⟨.hbm, 109, rfl⟩
abbrev main_call7_v5 : Ref sig .tc := ⟨.hbm, 110, rfl⟩
abbrev main_call7_c_1 : Ref sig .tc := ⟨.hbm, 111, rfl⟩
abbrev main_call7_c_2 : Ref sig .tc := ⟨.hbm, 112, rfl⟩
abbrev main_call7_v6 : Ref sig .tc := ⟨.hbm, 113, rfl⟩
abbrev main_call7_v7 : Ref sig .tc := ⟨.hbm, 114, rfl⟩
abbrev main_call7_v8 : Ref sig .tc := ⟨.hbm, 115, rfl⟩
abbrev main_call7_v9 : Ref sig .tc := ⟨.hbm, 116, rfl⟩
abbrev main_call7_v10 : Ref sig .tc := ⟨.hbm, 117, rfl⟩
abbrev main_call7_v11 : Ref sig .tc := ⟨.hbm, 118, rfl⟩
abbrev main_call7_c_3 : Ref sig .tc := ⟨.hbm, 119, rfl⟩
abbrev main_call7_v12 : Ref sig .tc := ⟨.hbm, 120, rfl⟩
abbrev main_call7_v13 : Ref sig .tc := ⟨.hbm, 121, rfl⟩
abbrev main_call7_v14 : Ref sig .tc := ⟨.hbm, 122, rfl⟩
abbrev main_call7_cst : Ref sig .tc := ⟨.hbm, 123, rfl⟩
abbrev main_call7_v15 : Ref sig .tc := ⟨.hbm, 124, rfl⟩
abbrev main_v31 : Ref sig .tc := ⟨.hbm, 125, rfl⟩
abbrev main_call8_v0 : Ref sig .tc := ⟨.hbm, 126, rfl⟩
abbrev main_call8_v1 : Ref sig .tc := ⟨.hbm, 127, rfl⟩
abbrev main_v32 : Ref sig .tc := ⟨.hbm, 128, rfl⟩
abbrev main_c_9 : Ref sig .tc := ⟨.hbm, 129, rfl⟩
abbrev main_v33 : Ref sig .tc := ⟨.hbm, 130, rfl⟩
abbrev main_c_10 : Ref sig .tc := ⟨.hbm, 131, rfl⟩
abbrev main_v34 : Ref sig .tc := ⟨.hbm, 132, rfl⟩
abbrev main_call9_call0_c : Ref sig .tc := ⟨.hbm, 133, rfl⟩
abbrev main_call9_call0_v0 : Ref sig .tc := ⟨.hbm, 134, rfl⟩
abbrev main_v35 : Ref sig .tc := ⟨.hbm, 135, rfl⟩
abbrev main_c_11 : Ref sig .tc := ⟨.hbm, 136, rfl⟩
abbrev main_v36 : Ref sig .tc := ⟨.hbm, 137, rfl⟩
abbrev main_c_12 : Ref sig .tc := ⟨.hbm, 138, rfl⟩
abbrev main_v37 : Ref sig .tc := ⟨.hbm, 139, rfl⟩
abbrev main_v38 : Ref sig .tc := ⟨.hbm, 140, rfl⟩
abbrev main_c_13 : Ref sig .tc := ⟨.hbm, 141, rfl⟩
abbrev main_v39 : Ref sig .tc := ⟨.hbm, 142, rfl⟩
abbrev main_v40 : Ref sig .tc := ⟨.hbm, 143, rfl⟩
abbrev main_v41 : Ref sig .tc := ⟨.hbm, 144, rfl⟩
abbrev main_v42 : Ref sig .tc := ⟨.hbm, 145, rfl⟩
abbrev main_c_14 : Ref sig .tc := ⟨.hbm, 146, rfl⟩
abbrev main_v43 : Ref sig .tc := ⟨.hbm, 147, rfl⟩
abbrev main_v44 : Ref sig .tc := ⟨.hbm, 148, rfl⟩
abbrev main_call10_call0_c : Ref sig .tc := ⟨.hbm, 149, rfl⟩
abbrev main_call10_call0_v0 : Ref sig .tc := ⟨.hbm, 150, rfl⟩
abbrev main_v45 : Ref sig .tc := ⟨.hbm, 151, rfl⟩
abbrev main_c_15 : Ref sig .tc := ⟨.hbm, 152, rfl⟩
abbrev main_v46 : Ref sig .tc := ⟨.hbm, 153, rfl⟩
abbrev main_v47 : Ref sig .tc := ⟨.hbm, 154, rfl⟩
abbrev main_call11_c : Ref sig .tc := ⟨.hbm, 155, rfl⟩
abbrev main_call11_v0 : Ref sig .tc := ⟨.hbm, 156, rfl⟩
abbrev main_call11_v1 : Ref sig .tc := ⟨.hbm, 157, rfl⟩
abbrev main_call11_c_0 : Ref sig .tc := ⟨.hbm, 158, rfl⟩
abbrev main_call11_v2 : Ref sig .tc := ⟨.hbm, 159, rfl⟩
abbrev main_call11_v3 : Ref sig .tc := ⟨.hbm, 160, rfl⟩
abbrev main_call11_v4 : Ref sig .tc := ⟨.hbm, 161, rfl⟩
abbrev main_call11_v5 : Ref sig .tc := ⟨.hbm, 162, rfl⟩
abbrev main_call11_c_1 : Ref sig .tc := ⟨.hbm, 163, rfl⟩
abbrev main_call11_c_2 : Ref sig .tc := ⟨.hbm, 164, rfl⟩
abbrev main_call11_v6 : Ref sig .tc := ⟨.hbm, 165, rfl⟩
abbrev main_call11_v7 : Ref sig .tc := ⟨.hbm, 166, rfl⟩
abbrev main_call11_v8 : Ref sig .tc := ⟨.hbm, 167, rfl⟩
abbrev main_call11_v9 : Ref sig .tc := ⟨.hbm, 168, rfl⟩
abbrev main_call11_v10 : Ref sig .tc := ⟨.hbm, 169, rfl⟩
abbrev main_call11_v11 : Ref sig .tc := ⟨.hbm, 170, rfl⟩
abbrev main_call11_c_3 : Ref sig .tc := ⟨.hbm, 171, rfl⟩
abbrev main_call11_v12 : Ref sig .tc := ⟨.hbm, 172, rfl⟩
abbrev main_call11_v13 : Ref sig .tc := ⟨.hbm, 173, rfl⟩
abbrev main_call11_v14 : Ref sig .tc := ⟨.hbm, 174, rfl⟩
abbrev main_call11_cst : Ref sig .tc := ⟨.hbm, 175, rfl⟩
abbrev main_call11_v15 : Ref sig .tc := ⟨.hbm, 176, rfl⟩
abbrev main_v48 : Ref sig .tc := ⟨.hbm, 177, rfl⟩
abbrev main_v49 : Ref sig .tc := ⟨.hbm, 178, rfl⟩
abbrev main_v50 : Ref sig .tc := ⟨.hbm, 179, rfl⟩

abbrev nD : Nat := 1
abbrev τ : Topo := Topo.v7x

variable {F : FTy → Type} [FloatOps F]
-- ==== Proof.Setup.lean ====
/-
  The program as the launch theorem sees it, and the rules a tile's straight-line code is run by.

  A tile's code touches its memory through memrefs only. `own` says "this memref reads `X`"; the rules below take one
  machine operation at the head of a program from what its memrefs read to what they read after it. Nothing here knows
  which memref is which, so each rule serves every buffer, chunk and semaphore of the kernel.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

set_option maxRecDepth 16384

noncomputable section

namespace Cert.Proof.Colour

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The launch's four semaphores are distinct and not scoped, and no SparseCore owns a buffer its tiles share. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

/-- The rounds of the launch's handshakes. -/
abbrev UH : Type := URounds (GSem nD τ sig) ℕ
/-- Beside them, the copies' counters. -/
abbrev UU : Type := UH × Counters

local notation "𝕄" => MT nD τ sig (HIx 1) (Elt F) ℕ UU ℕ

abbrev EH : Emb UH (MT nD τ sig (HIx 1) (Elt F) ℕ UU ℕ) := embL
abbrev EC : UEmb Counters (MT nD τ sig (HIx 1) (Elt F) ℕ UU ℕ) := countersEmb (U := UU)

/-! ## What a memref reads -/

section Own

variable (d : Dev nD) (c : Fin τ.nSC) (i : Fin τ.nSub)
variable {sp sp' : Space} {s t : Shape} {e : EltTy}

/-- Tile `(c, i)` of device `d` holds share `q` of memref `A`'s elements, and they read `X`. -/
def own (q : PosShare TreeShare) (A : Memref sig .scVector sp s e) (X : s.Idx → Elt F e) : sProp 𝕄 :=
  iprop(∃ f : Buf (Elt F) (A.view.loc (V d c i)), ⌜A.view.read (Elt F) f = X⌝ ∗ (A.view.loc (V d c i) ↦[A.view.set]{q} f))

/-- The elements of a memref at contents `f` read what `f` reads. -/
theorem own_intro (q : PosShare TreeShare) (A : Memref sig .scVector sp s e) (f : Buf (Elt F) (A.view.loc (V d c i))) :
    (A.view.loc (V d c i) ↦[A.view.set]{q} f : sProp 𝕄) ⊢ own d c i q A (A.view.read (Elt F) f) := by
  unfold own
  iintro H
  iexists f; isplitr
  · ipureintro; rfl
  · iexact H

theorem own_mk (q : PosShare TreeShare) (A : Memref sig .scVector sp s e) {f : Buf (Elt F) (A.view.loc (V d c i))} {X : s.Idx → Elt F e}
    (h : A.view.read (Elt F) f = X) : (A.view.loc (V d c i) ↦[A.view.set]{q} f : sProp 𝕄) ⊢ own d c i q A X :=
  h ▸ own_intro d c i q A f

/-- What reads as `f` does is at `f`. -/
theorem own_elim (q : PosShare TreeShare) (A : Memref sig .scVector sp s e) (f : Buf (Elt F) (A.view.loc (V d c i))) :
    own d c i q A (A.view.read (Elt F) f) ⊢ (A.view.loc (V d c i) ↦[A.view.set]{q} f : sProp 𝕄) := by
  unfold own
  iintro ⟨%g, %h, H⟩
  rw [pointsTo_congr (f := f) (g := g)]
  · iexact H
  · intro j hj
    obtain ⟨x, -, rfl⟩ := Finset.mem_map.mp hj
    have hx := congrFun h x
    rw [View.read_apply, View.read_apply] at hx
    exact ((cast_inj _).mp hx).symm

theorem own_eq (q : PosShare TreeShare) (A : Memref sig .scVector sp s e) {X Y : s.Idx → Elt F e} (h : X = Y) :
    own d c i q A X ⊢ own d c i q A Y := h ▸ .rfl

/-- The tile's waits: those it started with and waits on copies of its own. -/
def waits (O : CellTallies nD τ sig (HIx 1)) (W : Waits sig (HIx 1)) : sProp 𝕄 :=
  iprop(∃ W', ⌜∀ p ∈ W', p ∈ W ∨ p.2 = none⌝ ∗ owes (V d c i) O W')

omit d c i in
/-- Through the whole rectangle a memref's elements are its own, -/
theorem set_whole_rect (A : Memref sig .scVector sp s e) : (A.access (.whole s)).set = A.view.set := by
  rw [View.set_slice, Rect.set_whole]; rfl

omit d c i in
/-- and read the same. -/
theorem read_whole_rect (A : Memref sig .scVector sp s e) (f : A.view.ref.ty.Contents (Elt F)) :
    (A.access (.whole s)).read (Elt F) f = A.view.read (Elt F) f := by
  funext x
  show A.view.read (Elt F) f ((Rect.whole s).emb x) = _
  rw [Rect.emb_whole_apply]

/-! ## The rules -/

variable [FloatOps F] {α : Type}

/-- A copy in flight on semaphore `sem`, of `N` bytes' credit, delivering the destination at `X` and the source as it was. -/
abbrev flying (sem : DmaSem sig) (N : ℕ) (Dl : sProp 𝕄) : sProp 𝕄 :=
  Transfers.Flight EC (V d c i) (SemLoc.dma sem) (none : HIx 1) N Dl

/-- Starting a copy: the source and the destination go into flight, to come back with the destination reading what the
    source reads. -/
theorem wp_issue {src : Memref sig .scVector sp s e} {dst : Memref sig .scVector sp' s e} {sem : DmaSem sig}
    {hsrc : src.view.WordExact} {hdst : dst.view.WordExact}
    {hsem : DmaTarget.Typed (nD := nD) (τ := τ) (p := .scVector c i) sp (SemLoc.dma sem) (.here dst)}
    {Q : α → sProp 𝕄} (k : PUnit → Prog (TpuEff nD τ sig (Elt F) Λ₀ (.scVector c i)) α)
    (q : PosShare TreeShare) (X Y : s.Idx → Elt F e) (hN : 0 < dst.view.dmaCredit) :
    iprop(own d c i q src X ∗ own d c i fullShare dst Y ∗ semVal (V d c i, SemLoc.dma sem) 0)
      ⊢ iprop((flying d c i sem dst.view.dmaCredit iprop(own d c i fullShare dst X ∗ own d c i q src X)
            -∗ wp frame (wpE (defs₀ (F := F)) 𝒱₀ (V d c i) none) Set.univ (k ⟨⟩) Q)
        -∗ wp frame (wpE (defs₀ (F := F)) 𝒱₀ (V d c i) none) Set.univ
            (Prog.lift (.enqueueDma src (.here dst) (SemLoc.dma sem) hsrc hdst hsem) >>= k) Q) := by
  show _ ⊢ iprop(_ -∗ wp _ _ _ (Prog.op (TpuEff.enqueueDmaAs (p := .scVector c i) src (.here dst) .same (SemLoc.dma sem) hsrc hdst hsem) k) Q)
  iintro ⟨Hs, Hd, Hv⟩ Hk
  ihave Hs := (Entails.of_eq (own.eq_1 d c i q src X)) $$ Hs
  ihave Hd := (Entails.of_eq (own.eq_1 d c i fullShare dst Y)) $$ Hd
  icases Hs with ⟨%fs, %hs, Hs⟩
  icases Hd with ⟨%fd, %hd, Hd⟩
  iapply (Transfers.wp_dmaLocal EC 𝒱₀ (V d c i) none (src := src) (dst := dst) (via := .same) (none : HIx 1) dst.view.dmaCredit rfl hN subset_rfl
    (q := q) (fs := fs) (fd := fd)) $$ [Hs Hd Hv]
  · isplitl [Hs]; · iexact Hs
    isplitl [Hd]; · iexact Hd
    iexact Hv
  iintro Hfl
  iapply Hk
  iapply (Transfers.Flight_mono EC (V d c i) (BI.Laws.sep_mono
    (own_mk d c i fullShare dst (X := X) ((View.read_write_univ (v := dst.view) fd (src.view.read (Elt F) fs)).trans hs))
    (own_mk d c i q src hs))) $$ Hfl

/-- Waiting for a copy: what it delivers comes back, and its semaphore at zero. -/
theorem wp_await {κ' : Kind} {s' : Shape} {e' : EltTy} {srcw : Memref sig .scVector sp' s' e'} {dstw : Memref sig κ' sp s e} {sem : DmaSem sig}
    {hsrc : srcw.view.WordExact} {hdst : dstw.view.WordExact}
    {Q : α → sProp 𝕄} (k : PUnit → Prog (TpuEff nD τ sig (Elt F) Λ₀ (.scVector c i)) α)
    {Dl : sProp 𝕄} {O : CellTallies nD τ sig (HIx 1)} {W : Waits sig (HIx 1)} :
    iprop(flying d c i sem dstw.view.dmaCredit Dl ∗ waits d c i O W ∗ Transfers.MayWaits (V d c i) (none : HIx 1) O)
      ⊢ iprop((iprop(Dl ∗ semVal (V d c i, SemLoc.dma sem) 0 ∗ waits d c i O W)
            -∗ wp frame (wpE (defs₀ (F := F)) 𝒱₀ (V d c i) none) Set.univ (k ⟨⟩) Q)
        -∗ wp frame (wpE (defs₀ (F := F)) 𝒱₀ (V d c i) none) Set.univ
            (Prog.lift (.waitDma2 sem srcw dstw hsrc hdst) >>= k) Q) := by
  show _ ⊢ iprop(_ -∗ wp _ _ _ (Prog.op (TpuEff.waitDma2 (p := .scVector c i) sem srcw dstw hsrc hdst) k) Q)
  unfold waits
  iintro ⟨Hf, ⟨%W', %hW', HO⟩, #Hmw⟩ Hk
  iapply (Transfers.wp_waitLocalO EC 𝒱₀ (V d c i) none (srcw := srcw) (dstw := dstw) (none : HIx 1) rfl) $$ [Hf HO]
  · isplitl [Hf]; · iexact Hf
    isplitl [HO]; · iexact HO
    iapply (Transfers.MayWaits.elim (SemLoc.dma sem)); iexact Hmw
  iintro ⟨HD, Hv, HO⟩
  iapply Hk
  isplitl [HD]; · iexact HD
  isplitl [Hv]; · iexact Hv
  iexists _; isplitr
  swap; · iexact HO
  ipureintro
  intro p hp
  rcases Finset.mem_insert.mp hp with rfl | hp
  · exact .inr rfl
  · exact hW' p hp

/-- Loading a vector: what the memref reads at the rectangle's coordinates. -/
theorem wp_fetch {A : Memref sig .scVector .vmem s e} {r : Rect s} {hl : A.view.LoadsAt r.toLoadRect}
    {Q : α → sProp 𝕄} (k : Vec F r.shape e → Prog (TpuEff nD τ sig (Elt F) Λ₀ (.scVector c i)) α) {q : PosShare TreeShare} {X : s.Idx → Elt F e} :
    own d c i q A X
      ⊢ iprop((own d c i q A X -∗ wp frame (wpE (defs₀ (F := F)) 𝒱₀ (V d c i) none) Set.univ (k fun x => X (r.toLoadRect.idx x)) Q)
        -∗ wp frame (wpE (defs₀ (F := F)) 𝒱₀ (V d c i) none) Set.univ (Prog.lift (.load A r.toLoadRect hl) >>= k) Q) := by
  show _ ⊢ iprop(_ -∗ wp _ _ _ (Prog.op (TpuEff.load (p := .scVector c i) A r.toLoadRect hl) k) Q)
  unfold own
  iintro ⟨%f, %hf, H⟩ Hk
  iapply (wp_load 𝒱₀ (V d c i) none Set.univ (m := A) (f := f) (S := A.view.set) (View.setOn_subset_set _ _)) $$ H
  iintro H
  rw [show A.view.readAt (Elt F) r.toLoadRect f = fun x => X (r.toLoadRect.idx x) from by subst hf; rfl]
  iapply Hk
  iexists f; isplitr
  · ipureintro; exact hf
  · iexact H

/-- Storing a whole 16-element register buffer. -/
theorem wp_put {A : Memref sig .scVector .vmem S16 e} {off : Fin 1 → Nat} {inb : ∀ a, off a + S16.size a ≤ S16.size a} (hoff : off = fun _ => 0)
    {hx : (A.access (Rect.unit (s := S16) off S16.size inb)).Stores Finset.univ}
    {hm : (Finset.univ : Finset (Rect.unit (s := S16) off S16.size inb).shape.Idx) = Finset.univ ∨ ∀ a, (Rect.unit (s := S16) off S16.size inb).stride a = 1}
    {w : (Rect.unit (s := S16) off S16.size inb).shape.Idx → Elt F e}
    {Q : α → sProp 𝕄} (k : PUnit → Prog (TpuEff nD τ sig (Elt F) Λ₀ (.scVector c i)) α) {X : S16.Idx → Elt F e} :
    own d c i fullShare A X
      ⊢ iprop((own d c i fullShare A w -∗ wp frame (wpE (defs₀ (F := F)) 𝒱₀ (V d c i) none) Set.univ (k ⟨⟩) Q)
        -∗ wp frame (wpE (defs₀ (F := F)) 𝒱₀ (V d c i) none) Set.univ
            (Prog.lift (.store A (Rect.unit (s := S16) off S16.size inb) w Finset.univ hx hm) >>= k) Q) := by
  show _ ⊢ iprop(_ -∗ wp _ _ _ (Prog.op (TpuEff.store (p := .scVector c i) A (Rect.unit (s := S16) off S16.size inb) w Finset.univ hx hm) k) Q)
  unfold own
  iintro ⟨%f, %hf, H⟩ Hk
  iapply (wp_store 𝒱₀ (V d c i) none Set.univ (m := A) (r := Rect.unit (s := S16) off S16.size inb) (Mk := Finset.univ) (hx := hx) (hm := hm) (f := f) (S := A.view.set) ?_) $$ H
  · exact (View.set_slice_subset _ _)
  iintro H
  iapply Hk
  iexists _; isplitr
  swap; · iexact H
  ipureintro
  funext x
  have h := congrFun (View.read_write_univ (Val := Elt F) (v := A.access (Rect.unit (s := S16) off S16.size inb)) f w) x
  subst hoff
  have he : (A.access (Rect.unit (s := S16) (fun _ => 0) S16.size inb)).emb x = A.view.emb x := congrArg A.view.emb (Rect.emb_whole_apply S16 x)
  rw [View.read_apply] at h ⊢
  rw [he] at h
  exact h

/-- A gather from a whole memref. -/
theorem wp_gather {A : Memref sig .scVector .vmem s e} {idxs : Fin s.rank → IVec t 32} {h : ∀ a x, (idxs a x).toNat < s.size a}
    {hl : A.view.Loads} {Q : α → sProp 𝕄} (k : Vec F t e → Prog (TpuEff nD τ sig (Elt F) Λ₀ (.scVector c i)) α) {q : PosShare TreeShare} {X : s.Idx → Elt F e} :
    own d c i q A X
      ⊢ iprop((own d c i q A X -∗ wp frame (wpE (defs₀ (F := F)) 𝒱₀ (V d c i) none) Set.univ (k (loadIdx X idxs h)) Q)
        -∗ wp frame (wpE (defs₀ (F := F)) 𝒱₀ (V d c i) none) Set.univ (SparseCore.vectorLoadIdx A idxs h hl >>= k) Q) := by
  unfold own
  iintro ⟨%f, %hf, H⟩ Hk
  iapply (SparseCore.wp_vectorLoadIdx 𝒱₀ (V d c i) none Set.univ (base := A) (f := f) (S := A.view.set) (View.set_slice_subset _ _)) $$ H
  iintro H
  rw [show (A.access (.whole s)).read (Elt F) f = X from hf ▸ read_whole_rect A f]
  iapply Hk
  iexists f; isplitr
  · ipureintro; exact hf
  · iexact H

/-- A scatter into a whole memref, every lane written. -/
theorem wp_scatter {n : Fin 1 → Nat} {A : Memref sig .scVector .vmem s e} {idxs : Fin s.rank → IVec ⟨1, n⟩ 32} {v : Vec F ⟨1, n⟩ e}
    {mask : IVec ⟨1, n⟩ 1} {add : Bool} {h : ∀ a x, (idxs a x).toNat < s.size a} {hs : (A.access (.whole s)).Stores Finset.univ}
    {Q : α → sProp 𝕄} (k : PUnit → Prog (TpuEff nD τ sig (Elt F) Λ₀ (.scVector c i)) α) {X : s.Idx → Elt F e} :
    own d c i fullShare A X
      ⊢ iprop((own d c i fullShare A (storeIdx X idxs v mask add h) -∗ wp frame (wpE (defs₀ (F := F)) 𝒱₀ (V d c i) none) Set.univ (k ⟨⟩) Q)
        -∗ wp frame (wpE (defs₀ (F := F)) 𝒱₀ (V d c i) none) Set.univ (SparseCore.vectorStoreIdx A idxs v mask add h hs >>= k) Q) := by
  unfold own
  iintro ⟨%f, %hf, H⟩ Hk
  iapply (SparseCore.wp_vectorStoreIdx 𝒱₀ (V d c i) none Set.univ (base := A) (f := f)) $$ [H]
  · rw [set_whole_rect A]; iexact H
  iintro H
  iapply Hk
  iexists _; isplitr
  swap; · rw [set_whole_rect A]; iexact H
  ipureintro
  rw [← read_whole_rect A, View.read_write_univ, read_whole_rect A, hf]

/-- An assumption that holds. -/
theorem wp_known {C : Prop} {dec : Decidable C} {Q : α → sProp 𝕄} (k : PLift C → Prog (TpuEff nD τ sig (Elt F) Λ₀ (.scVector c i)) α) (h : C) :
    (wp frame (wpE (defs₀ (F := F)) 𝒱₀ (V d c i) none) Set.univ (k ⟨h⟩) Q : sProp 𝕄)
      ⊢ wp frame (wpE (defs₀ (F := F)) 𝒱₀ (V d c i) none) Set.univ (Prog.lift (TpuEff.assume C dec) >>= k) Q :=
  Entails.of_eq (wp_assume_of 𝒱₀ (V d c i) none Set.univ h).symm

end Own

end Cert.Proof.Colour
-- ==== Proof.Trip.lean ====
/-
  One trip of the kernel's loop, and the loop.

  A trip reads sixteen camera numbers, and for each of the three colour channels gathers sixteen colours of the chunk,
  each camera's weight and each camera's bias, and scatters weight × colour + bias into the output chunk. The eight
  loops of the kernel differ in their buffers and in where their camera numbers start: the trip and the loop are stated
  once, over any buffers and any start.
-/
module

public import proofs.«01_k».proof.Proof.Setup

@[expose] public section

set_option maxRecDepth 16384

noncomputable section

namespace Cert.Proof.Colour

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

local notation "𝕄" => MT nD τ sig (HIx 1) (Elt F) ℕ UU ℕ

/-! ## A scatter of sixteen rows of one column -/

section Fold

variable {J K Y : Type} (p : K → J → Prop) [∀ k j, Decidable (p k j)] (y : K → Y)

/-- Writes that all miss an element leave it. -/
theorem fold_miss (l : List K) (f : J → Y) (j : J) (h : ∀ k ∈ l, ¬ p k j) :
    l.foldl (fun g k => fun j => if p k j then y k else g j) f j = f j := by
  induction l generalizing f with
  | nil => rfl
  | cons a l ih =>
    rw [List.foldl_cons, ih _ fun k hk => h k (List.mem_cons_of_mem _ hk)]
    exact if_neg (h a List.mem_cons_self)

/-- Of writes one of which hits an element, that one is what stays. -/
theorem fold_hit (l : List K) (f : J → Y) (j : J) (k₀ : K) (hm : k₀ ∈ l) (hp : p k₀ j) (h : ∀ k ∈ l, p k j → k = k₀) :
    l.foldl (fun g k => fun j => if p k j then y k else g j) f j = y k₀ := by
  induction l generalizing f with
  | nil => cases hm
  | cons a l ih =>
    rw [List.foldl_cons]
    by_cases ha : k₀ ∈ l
    · exact ih _ ha fun k hk => h k (List.mem_cons_of_mem _ hk)
    · have e : a = k₀ := by
        rcases List.mem_cons.mp hm with e | e
        · exact e.symm
        · exact absurd e ha
      rw [fold_miss p y l _ j fun k hk hpk => ha (h k (List.mem_cons_of_mem _ hk) hpk ▸ hk)]
      subst e
      exact if_pos hp

end Fold

variable [FloatOps F]

/-- Lane `n` of a register. -/
def lane (n : ℕ) (h : n < 16) : S16.Idx := fun a => ⟨n, by rw [Fin.eq_zero a]; exact h⟩

theorem lane_eq (x : S16.Idx) : lane (x 0).val (x 0).isLt = x := by
  funext a; rw [Fin.eq_zero a]; rfl

/-- The element lane `k` of a scatter names is `j`. -/
abbrev Names (r c : IVec S16 32) (h : ∀ a x, ((![r, c] : Fin 2 → IVec S16 32) a x).toNat < S128x3.size a) (k : Fin 16) (j : S128x3.Idx) : Prop :=
  ∀ a, (j a).val = (idxAt (s := S128x3) ![r, c] h (Shape.ofLane (d := ![16]) k) a).val

theorem scatter_fold (f : Vec F S128x3 .f32) (r c : IVec S16 32) (v : Vec F S16 .f32) (h) (j : S128x3.Idx) :
    storeIdx f ![r, c] v (fun _ => 1#1) false h j
      = (List.finRange 16).foldl (fun g k => fun j => if Names r c h k j then v (Shape.ofLane (d := ![16]) k) else g j) f j := by
  have e : (1#1 : BitVec 1) = 1 := rfl
  unfold storeIdx
  simp only [e, if_true, Bool.false_eq_true, if_false]
  rfl

/-- The scatter of a register into rows `a … a + 15` of column `b`: those elements are the register's lanes, -/
theorem scatter_in (f : Vec F S128x3 .f32) (r c : IVec S16 32) (v : Vec F S16 .f32) (h) {a b : ℕ}
    (hr : ∀ x : S16.Idx, (r x).toNat = a + (x 0).val) (hc : ∀ x, (c x).toNat = b) (j : S128x3.Idx)
    (n : ℕ) (hn : n < 16) (h0 : (j 0).val = a + n) (h1 : (j 1).val = b) :
    storeIdx f ![r, c] v (fun _ => 1#1) false h j = v (lane n hn) := by
  rw [scatter_fold]
  refine (fold_hit (Names r c h) (fun k => v (Shape.ofLane (d := ![16]) k)) (List.finRange 16) f j ⟨n, hn⟩ (List.mem_finRange _) ?_ ?_)
  · intro q
    match q with
    | 0 => exact h0.trans (hr (Shape.ofLane (d := ![16]) ⟨n, hn⟩)).symm
    | 1 => exact h1.trans (hc (Shape.ofLane (d := ![16]) ⟨n, hn⟩)).symm
  · intro k _ hk
    have := (hk 0).symm.trans h0
    have e : a + k.val = a + n := (hr (Shape.ofLane (d := ![16]) k)).symm.trans this
    exact Fin.ext (Nat.add_left_cancel e)

/-- and the others are left. -/
theorem scatter_out (f : Vec F S128x3 .f32) (r c : IVec S16 32) (v : Vec F S16 .f32) (h) {a b : ℕ}
    (hr : ∀ x : S16.Idx, (r x).toNat = a + (x 0).val) (hc : ∀ x, (c x).toNat = b) (j : S128x3.Idx)
    (hj : (j 0).val < a ∨ (j 1).val ≠ b) :
    storeIdx f ![r, c] v (fun _ => 1#1) false h j = f j := by
  rw [scatter_fold]
  refine (fold_miss (Names r c h) (fun k => v (Shape.ofLane (d := ![16]) k)) (List.finRange 16) f j ?_)
  intro k _ hk
  rcases hj with hj | hj
  · have e : (j 0).val = a + k.val := (hk 0).trans (hr (Shape.ofLane (d := ![16]) k))
    omega
  · exact hj ((hk 1).trans (hc _))

/-! ## What a chunk is to hold -/

/-- Camera `w`'s entry of a sixteen-camera register buffer. -/
def cam (w : BitVec 32) : S16.Idx := if h : w.toNat < 16 then lane w.toNat h else lane 0 (by decide)

/-- The place of row `n` of chunk `k` among a tile's camera numbers. -/
def place (k : ℕ) (n : ℕ) (h : 128 * k + n < 1024) : S1024.Idx := fun a => ⟨128 * k + n, by rw [Fin.eq_zero a]; exact h⟩

theorem place_lt {k n : ℕ} (hk : k < 8) (hn : n < 128) : 128 * k + n < 1024 := by omega

/-- Chunk `k`'s output: from its colours `X`, the tile's camera numbers `J` and each channel's weights and biases. -/
def shade (k : ℕ) (hk : k < 8) (X : S128x3.Idx → Elt F .f32) (J : S1024.Idx → Elt F .i32) (Wt Bs : Fin 3 → S16.Idx → Elt F .f32) (j : S128x3.Idx) : Elt F .f32 :=
  FloatOps.addf (FloatOps.mulf (X j) (Wt (j 1) (cam (J (place k (j 0).val (place_lt hk (j 0).isLt)))))) (Bs (j 1) (cam (J (place k (j 0).val (place_lt hk (j 0).isLt)))))

/-! ## A trip -/

section Trip

variable (d : Dev nD) (c : Fin τ.nSC) (i : Fin τ.nSub)

/-- The buffers a loop works over: a chunk in, a chunk out, the camera numbers, and each channel's weights and biases. -/
structure Bufs where
  A : Memref sig .scVector .vmem S128x3 .f32
  B : Memref sig .scVector .vmem S128x3 .f32
  I : Memref sig .scVector .vmem S1024 .i32
  w : Fin 3 → Memref sig .scVector .vmem S16 .f32
  b : Fin 3 → Memref sig .scVector .vmem S16 .f32

/-- A trip's program: `r` its rows, `q` the channels' columns, `off` where its camera numbers start; `C` and `C'` what it
    assumes of the rows and columns, and of the camera numbers. -/
def trip (u : Bufs) (q : Fin 3 → IVec S16 32) (r : IVec S16 32) (off : Fin 1 → Nat) (inb : ∀ a, off a + S16.size a ≤ S1024.size a)
    (C : Prop) (dC : Decidable C) (hC : C → ∀ n : Fin 3, ∀ a x, ((![r, q n] : Fin 2 → IVec S16 32) a x).toNat < S128x3.size a)
    (C' : IVec S16 32 → Prop) (dC' : ∀ v, Decidable (C' v)) (hC' : ∀ v, C' v → ∀ a x, ((![v] : Fin 1 → IVec S16 32) a x).toNat < S16.size a) :
    Prog (TpuEff nD τ sig (Elt F) Λ₀ (.scVector c i)) Unit := do
  have hw : C := (← Prog.lift (TpuEff.assume C dC)).down
  let v : Vec F S16 .i32 ← Prog.lift (.load u.I (Rect.unit (s := S1024) off S16.size inb).toLoadRect (View.loadsAt_vmem h_S16))
  have hw' : C' v := (← Prog.lift (TpuEff.assume (C' v) (dC' v))).down
  let x₀ : Vec F S16 .f32 ← SparseCore.vectorLoadIdx u.A ![r, q 0] (hC hw 0) (View.loads_vmem h_S128x3)
  let w₀ : Vec F S16 .f32 ← SparseCore.vectorLoadIdx (u.w 0) ![v] (hC' v hw') (View.loads_vmem h_S16)
  let b₀ : Vec F S16 .f32 ← SparseCore.vectorLoadIdx (u.b 0) ![v] (hC' v hw') (View.loads_vmem h_S16)
  SparseCore.vectorStoreIdx u.B ![r, q 0] (addf (mulf x₀ w₀) b₀ : FVec F S16 .f32) (fun _ => 1#1) false (hC hw 0) (View.stores_vmem_bits_univ h_S128x3 rfl)
  let x₁ : Vec F S16 .f32 ← SparseCore.vectorLoadIdx u.A ![r, q 1] (hC hw 1) (View.loads_vmem h_S128x3)
  let w₁ : Vec F S16 .f32 ← SparseCore.vectorLoadIdx (u.w 1) ![v] (hC' v hw') (View.loads_vmem h_S16)
  let b₁ : Vec F S16 .f32 ← SparseCore.vectorLoadIdx (u.b 1) ![v] (hC' v hw') (View.loads_vmem h_S16)
  SparseCore.vectorStoreIdx u.B ![r, q 1] (addf (mulf x₁ w₁) b₁ : FVec F S16 .f32) (fun _ => 1#1) false (hC hw 1) (View.stores_vmem_bits_univ h_S128x3 rfl)
  let x₂ : Vec F S16 .f32 ← SparseCore.vectorLoadIdx u.A ![r, q 2] (hC hw 2) (View.loads_vmem h_S128x3)
  let w₂ : Vec F S16 .f32 ← SparseCore.vectorLoadIdx (u.w 2) ![v] (hC' v hw') (View.loads_vmem h_S16)
  let b₂ : Vec F S16 .f32 ← SparseCore.vectorLoadIdx (u.b 2) ![v] (hC' v hw') (View.loads_vmem h_S16)
  SparseCore.vectorStoreIdx u.B ![r, q 2] (addf (mulf x₂ w₂) b₂ : FVec F S16 .f32) (fun _ => 1#1) false (hC hw 2) (View.stores_vmem_bits_univ h_S128x3 rfl)
  pure ⟨⟩

/-- What a trip reads and leaves: the colours, the camera numbers, the weights and the biases. -/
def still (u : Bufs) (X : S128x3.Idx → Elt F .f32) (J : S1024.Idx → Elt F .i32) (Wt Bs : Fin 3 → S16.Idx → Elt F .f32) : sProp 𝕄 :=
  iprop(own d c i fullShare u.A X ∗ own d c i fullShare u.I J
    ∗ (own d c i fullShare (u.w 0) (Wt 0) ∗ own d c i fullShare (u.w 1) (Wt 1) ∗ own d c i fullShare (u.w 2) (Wt 2))
    ∗ (own d c i fullShare (u.b 0) (Bs 0) ∗ own d c i fullShare (u.b 1) (Bs 1) ∗ own d c i fullShare (u.b 2) (Bs 2)))

/-- Before trip `t` of chunk `k`'s loop the output chunk's first `16 t` rows are done. -/
def upTo (u : Bufs) (k : ℕ) (hk : k < 8) (X : S128x3.Idx → Elt F .f32) (J : S1024.Idx → Elt F .i32) (Wt Bs : Fin 3 → S16.Idx → Elt F .f32) (t : ℕ) : sProp 𝕄 :=
  iprop(still d c i u X J Wt Bs
    ∗ ∃ Y : S128x3.Idx → Elt F .f32, ⌜∀ j, (j 0).val < 16 * t → Y j = shade k hk X J Wt Bs j⌝ ∗ own d c i fullShare u.B Y)

/-- `p` is trip `t` of chunk `k`'s loop. -/
def IsTrip (u : Bufs) (k t : ℕ) (p : Prog (TpuEff nD τ sig (Elt F) Λ₀ (.scVector c i)) Unit) : Prop :=
  ∃ (q : Fin 3 → IVec S16 32) (r : IVec S16 32) (off : Fin 1 → Nat) (inb : ∀ a, off a + S16.size a ≤ S1024.size a)
    (C : Prop) (dC : Decidable C) (hC : C → ∀ n : Fin 3, ∀ a x, ((![r, q n] : Fin 2 → IVec S16 32) a x).toNat < S128x3.size a)
    (C' : IVec S16 32 → Prop) (dC' : ∀ v, Decidable (C' v)) (hC' : ∀ v, C' v → ∀ a x, ((![v] : Fin 1 → IVec S16 32) a x).toNat < S16.size a),
    C ∧ (∀ v : IVec S16 32, (∀ x, (v x).toNat < 16) → C' v)
      ∧ (∀ x : S16.Idx, (r x).toNat = 16 * t + (x 0).val) ∧ (∀ n x, (q n x).toNat = n.val) ∧ off 0 = 16 * t + 128 * k
      ∧ p = trip c i u q r off inb C dC hC C' dC' hC'

omit [FloatOps F] in
/-- Camera numbers below 16 name themselves. -/
theorem cam_at (v : IVec S16 32) (h : ∀ a x, ((![v] : Fin 1 → IVec S16 32) a x).toNat < S16.size a) (x : S16.Idx) :
    idxAt (s := S16) ![v] h x = cam (v x) := by
  have hx : (v x).toNat < 16 := h 0 x
  unfold cam
  rw [dif_pos hx]
  funext a; obtain rfl : a = 0 := Subsingleton.elim _ _
  rfl

/-- One trip: the output chunk's next sixteen rows done. -/
theorem wp_trip (u : Bufs) (k : ℕ) (hk : k < 8) (X : S128x3.Idx → Elt F .f32) (J : S1024.Idx → Elt F .i32) (hJ : ∀ x, (J x).toNat < 16)
    (Wt Bs : Fin 3 → S16.Idx → Elt F .f32) (t : ℕ) {p : Prog (TpuEff nD τ sig (Elt F) Λ₀ (.scVector c i)) Unit} (hp : IsTrip c i u k t p) :
    (upTo d c i u k hk X J Wt Bs t : sProp 𝕄)
      ⊢ wp frame (wpE (defs₀ (F := F)) 𝒱₀ (V d c i) none) Set.univ p fun _ => upTo d c i u k hk X J Wt Bs (t + 1) := by
  obtain ⟨q, r, off, inb, C, dC, hC, C', dC', hC', hcC, hcC', hr, hq, hoff, rfl⟩ := hp
  unfold upTo still trip
  iintro ⟨⟨HA, HI, ⟨Hw0, Hw1, Hw2⟩, Hb0, Hb1, Hb2⟩, %Y, %hY, HB⟩
  iapply (wp_known d c i _ hcC)
  iapply (wp_fetch d c i _) $$ HI
  iintro HI
  iapply (wp_known d c i _ (hcC' _ fun x => hJ _))
  iapply (wp_gather d c i _) $$ HA
  iintro HA
  iapply (wp_gather d c i _) $$ Hw0
  iintro Hw0
  iapply (wp_gather d c i _) $$ Hb0
  iintro Hb0
  iapply (wp_scatter d c i _) $$ HB
  iintro HB
  iapply (wp_gather d c i _) $$ HA
  iintro HA
  iapply (wp_gather d c i _) $$ Hw1
  iintro Hw1
  iapply (wp_gather d c i _) $$ Hb1
  iintro Hb1
  iapply (wp_scatter d c i _) $$ HB
  iintro HB
  iapply (wp_gather d c i _) $$ HA
  iintro HA
  iapply (wp_gather d c i _) $$ Hw2
  iintro Hw2
  iapply (wp_gather d c i _) $$ Hb2
  iintro Hb2
  iapply (wp_scatter d c i _) $$ HB
  iintro HB
  iapply (Entails.of_eq (wp_ret frame (wpE (defs₀ (F := F)) 𝒱₀ (V d c i) none) Set.univ _ _).symm)
  imodintro
  isplitl [HA HI Hw0 Hw1 Hw2 Hb0 Hb1 Hb2]
  · isplitl [HA]; · iexact HA
    isplitl [HI]; · iexact HI
    isplitl [Hw0 Hw1 Hw2]
    · isplitl [Hw0]; · iexact Hw0
      isplitl [Hw1]; · iexact Hw1
      iexact Hw2
    · isplitl [Hb0]; · iexact Hb0
      isplitl [Hb1]; · iexact Hb1
      iexact Hb2
  iexists _; isplitr
  swap; · iexact HB
  ipureintro
  -- a channel's register at a lane is what that row of that column is to hold
  have hval : ∀ (n : Fin 3) (hn) (hv) (hv') (j : S128x3.Idx) (l : ℕ) (hl : l < 16), (j 0).val = 16 * t + l → (j 1) = n →
      (addf (mulf (loadIdx X ![r, q n] hn : Vec F S16 .f32)
          (loadIdx (Wt n) ![fun x => J ((Rect.unit (s := S1024) off S16.size inb).toLoadRect.idx x)] hv))
        (loadIdx (Bs n) ![fun x => J ((Rect.unit (s := S1024) off S16.size inb).toLoadRect.idx x)] hv') : FVec F S16 .f32) (lane l hl)
        = shade k hk X J Wt Bs j := by
    intro n hn hv hv' j l hl h0 h1
    have hj : idxAt (s := S128x3) ![r, q n] hn (lane l hl) = j := by
      funext a; apply Fin.ext
      match a with
      | 0 => exact (hr (lane l hl)).trans h0.symm
      | 1 => exact (hq n _).trans (congrArg Fin.val h1).symm
    have hpl : (Rect.unit (s := S1024) off S16.size inb).toLoadRect.idx (lane l hl) = place k (j 0).val (place_lt hk (j 0).isLt) := by
      funext a; obtain rfl : a = 0 := Subsingleton.elim _ _
      apply Fin.ext
      rw [LoadRect.idx_apply]
      show off 0 + 1 * l = 128 * k + (j 0).val
      omega
    subst h1
    unfold shade
    rw [← hpl]
    show FloatOps.addf (FloatOps.mulf (X (idxAt (s := S128x3) ![r, q _] hn (lane l hl))) (Wt _ (idxAt (s := S16) ![_] hv (lane l hl)))) (Bs _ (idxAt (s := S16) ![_] hv' (lane l hl))) = _
    rw [hj, cam_at]
  intro j hj
  by_cases hlt : (j 0).val < 16 * t
  · rw [scatter_out _ _ _ _ _ hr (hq 2) j (.inl hlt), scatter_out _ _ _ _ _ hr (hq 1) j (.inl hlt),
      scatter_out _ _ _ _ _ hr (hq 0) j (.inl hlt)]
    exact hY j hlt
  · have hl : (j 0).val - 16 * t < 16 := by omega
    have h0 : (j 0).val = 16 * t + ((j 0).val - 16 * t) := by omega
    by_cases h2 : (j 1).val = 2
    · rw [scatter_in _ _ _ _ _ hr (hq 2) j _ hl h0 h2]
      exact hval 2 _ _ _ j _ hl h0 (Fin.ext h2)
    rw [scatter_out _ _ _ _ _ hr (hq 2) j (.inr h2)]
    by_cases h1 : (j 1).val = 1
    · rw [scatter_in _ _ _ _ _ hr (hq 1) j _ hl h0 h1]
      exact hval 1 _ _ _ j _ hl h0 (Fin.ext h1)
    rw [scatter_out _ _ _ _ _ hr (hq 1) j (.inr h1)]
    have hlt3 : (j 1).val < 3 := (j 1).isLt
    have h00 : (j 1).val = 0 := by omega
    rw [scatter_in _ _ _ _ _ hr (hq 0) j _ hl h0 h00]
    exact hval 0 _ _ _ j _ hl h0 (Fin.ext h00)

/-- A chunk's loop of eight trips, at the head of a program: the output chunk done. -/
theorem wp_chunk (u : Bufs) (k : ℕ) (hk : k < 8) (X : S128x3.Idx → Elt F .f32) (J : S1024.Idx → Elt F .i32) (hJ : ∀ x, (J x).toNat < 16)
    (Wt Bs : Fin 3 → S16.Idx → Elt F .f32) (l : Scf.Loop 32) (hl : l.trips = 8) (hok : l.OK)
    (body : Fin l.trips → Unit → Prog (TpuEff nD τ sig (Elt F) Λ₀ (.scVector c i)) Unit)
    (hbody : ∀ t acc, IsTrip c i u k t.val (body t acc))
    {α : Type} {Q : α → sProp 𝕄} (kk : Unit → Prog (TpuEff nD τ sig (Elt F) Λ₀ (.scVector c i)) α) (Y : S128x3.Idx → Elt F .f32) :
    iprop(still d c i u X J Wt Bs ∗ own d c i fullShare u.B Y)
      ⊢ iprop((iprop(still d c i u X J Wt Bs ∗ own d c i fullShare u.B (shade k hk X J Wt Bs))
            -∗ wp frame (wpE (defs₀ (F := F)) 𝒱₀ (V d c i) none) Set.univ (kk ⟨⟩) Q)
        -∗ wp frame (wpE (defs₀ (F := F)) 𝒱₀ (V d c i) none) Set.univ (Scf.Loop.for l hok ⟨⟩ body >>= kk) Q) := by
  iintro ⟨Hs, HB⟩ Hk
  iapply (Scf.wp_for_bind frame (wpE (defs₀ (F := F)) 𝒱₀ (V d c i) none) Set.univ l.lb l.ub l.st hok ⟨⟩ body
    (fun t _ => upTo d c i u k hk X J Wt Bs t) (fun t acc => wp_trip d c i u k hk X J hJ Wt Bs t.val (hbody t acc))) $$ [Hs HB]
  · unfold upTo
    isplitl [Hs]; · iexact Hs
    iexists Y; isplitr
    · ipureintro; intro j hj; omega
    · iexact HB
  iintro %acc HI
  unfold upTo
  icases HI with ⟨Hs, %Z, %hZ, HB⟩
  iapply Hk
  isplitl [Hs]; · iexact Hs
  rw [show Z = shade k hk X J Wt Bs from funext fun j => hZ j (by
    have h : (j 0).val < 128 := (j 0).isLt
    have e : Scf.trips l.lb l.ub l.st = 8 := hl
    omega)]
  iexact HB

end Trip

end Cert.Proof.Colour
-- ==== Proof.Canon.lean ====
/-
  The kernel's index vectors, its weight and bias registers, and its loops' trips in the form the loop's rule takes.
-/
module

public import proofs.«01_k».proof.Proof.Trip

@[expose] public section

set_option maxRecDepth 16384

noncomputable section

namespace Cert.Proof.Colour

open Cert.KernelIdeal Cert.KernelIdeal.Gen

open Idealize.ShloMosaic
open Idealize.ShloMosaic.SparseCore (S V T)
open Idealize.SL Idealize.SL.RA Idealize.SL.BI
open Idealize.SL.Sem

variable {F : FTy → Type}

/-! ## Index vectors -/

/-- The lane numbers. -/
abbrev lanes : IVec S16 32 := iota .scVector S16 32 [0] iota_S16_d0_w32_scVector

theorem lanes_val : ∀ x : S16.Idx, (lanes x).toNat = (x 0).val := by decide +kernel

theorem lanes_high : ∀ x : S16.Idx, (k0_pay9 lanes 16#32 x).toNat = 16 + (x 0).val := by decide +kernel

/-- Channel `n` at every lane. -/
def cols : Fin 3 → IVec S16 32 := ![k0_pay6, k0_pay7, k0_pay8]

theorem cols_val : ∀ (n : Fin 3) (x : S16.Idx), (cols n x).toNat = n.val := by decide +kernel

theorem cols_lt (n : Fin 3) (x : S16.Idx) : (cols n x).toNat < 3 := by
  rw [cols_val]; exact n.isLt

/-- The rows of trip `t`: the sixteen from `16 t`. -/
abbrev rowsAt (t : Fin 8) : IVec S16 32 := k0_pay18 lanes t

theorem rowsAt_val : ∀ (t : Fin 8) (x : S16.Idx), (rowsAt t x).toNat = 16 * t.val + (x 0).val := by decide +kernel

theorem rowsAt_lt (t : Fin 8) (x : S16.Idx) : (rowsAt t x).toNat < 128 := by
  rw [rowsAt_val]
  have h1 := t.isLt
  have h2 : (x 0).val < 16 := (x 0).isLt
  omega

theorem pair_lt {s : Shape} {n m : ℕ} (hs : s = ⟨2, ![n, m]⟩) (p q : IVec S16 32) (hp : ∀ x, (p x).toNat < n) (hq : ∀ x, (q x).toNat < m) :
    ∀ (a : Fin 2) (x : S16.Idx), ((![p, q] : Fin 2 → IVec S16 32) a x).toNat < (![n, m] : Fin 2 → ℕ) a := by
  intro a x
  fin_cases a
  · exact hp x
  · exact hq x

theorem low_in (n : Fin 3) : ∀ (a : Fin 2) (x : S16.Idx), ((![lanes, cols n] : Fin 2 → IVec S16 32) a x).toNat < S32x3.size a :=
  pair_lt (s := S32x3) rfl lanes (cols n) (fun x => by have h : (x 0).val < 16 := (x 0).isLt; rw [lanes_val]; omega) (cols_lt n)

theorem high_in (n : Fin 3) : ∀ (a : Fin 2) (x : S16.Idx), ((![k0_pay9 lanes 16#32, cols n] : Fin 2 → IVec S16 32) a x).toNat < S32x3.size a :=
  pair_lt (s := S32x3) rfl _ (cols n) (fun x => by have h : (x 0).val < 16 := (x 0).isLt; rw [lanes_high]; omega) (cols_lt n)

theorem rows_in (t : Fin 8) (n : Fin 3) : ∀ (a : Fin 2) (x : S16.Idx), ((![rowsAt t, cols n] : Fin 2 → IVec S16 32) a x).toNat < S128x3.size a :=
  pair_lt (s := S128x3) rfl _ (cols n) (rowsAt_lt t) (cols_lt n)

/-! ## Weights and biases -/

/-- Row `r`, column `n` of the table: its first sixteen rows the weights, the rest the biases. -/
def cell (r : ℕ) (hr : r < 32) (n : Fin 3) : S32x3.Idx := fun
  | 0 => ⟨r, hr⟩
  | 1 => n

theorem low_lt (x : S16.Idx) : (x 0).val < 32 := by have h : (x 0).val < 16 := (x 0).isLt; omega
theorem high_lt (x : S16.Idx) : 16 + (x 0).val < 32 := by have h : (x 0).val < 16 := (x 0).isLt; omega

variable [FloatOps F]

/-- Camera `x`'s weight on channel `n`: one for camera 0, else one added to the table's weight. -/
def weight (Tb : S32x3.Idx → Elt F .f32) (n : Fin 3) (x : S16.Idx) : Elt F .f32 :=
  Scalar.select (k0_pay5 x) (Scalar.ofBits .f32 0x3F800000#32 : F .f32)
    (FloatOps.addf (Tb (cell (x 0).val (low_lt x) n)) (Scalar.ofBits .f32 0x3F800000#32))

/-- Camera `x`'s bias on channel `n`: zero for camera 0, else the table's bias. -/
def bias (Tb : S32x3.Idx → Elt F .f32) (n : Fin 3) (x : S16.Idx) : Elt F .f32 :=
  Scalar.select (k0_pay5 x) (Scalar.ofBits .f32 0x00000000#32 : F .f32) (Tb (cell (16 + (x 0).val) (high_lt x) n))

theorem idxAt_cell (p : IVec S16 32) (n : Fin 3) (h : ∀ a x, ((![p, cols n] : Fin 2 → IVec S16 32) a x).toNat < S32x3.size a) (x : S16.Idx)
    (r : ℕ) (hr : r < 32) (hp : (p x).toNat = r) : idxAt (s := S32x3) ![p, cols n] h x = cell r hr n := by
  funext a
  match a with
  | 0 => exact Fin.ext hp
  | 1 => exact Fin.ext (cols_val n x)

theorem weight_eq (Tb : S32x3.Idx → Elt F .f32) (n : Fin 3) (h : ∀ a x, ((![lanes, cols n] : Fin 2 → IVec S16 32) a x).toNat < S32x3.size a) :
    k0_pay10 k0_pay5 (loadIdx Tb ![lanes, cols n] h) = weight Tb n := by
  funext x
  show Scalar.select (k0_pay5 x) _ (FloatOps.addf (Tb (idxAt (s := S32x3) ![lanes, cols n] h x)) _) = _
  rw [idxAt_cell lanes n h x _ (low_lt x) (lanes_val x)]
  rfl

theorem bias_eq (Tb : S32x3.Idx → Elt F .f32) (n : Fin 3) (h : ∀ a x, ((![k0_pay9 lanes 16#32, cols n] : Fin 2 → IVec S16 32) a x).toNat < S32x3.size a) :
    k0_pay11 k0_pay5 (loadIdx Tb ![k0_pay9 lanes 16#32, cols n] h) = bias Tb n := by
  funext x
  show Scalar.select (k0_pay5 x) _ (Tb (idxAt (s := S32x3) ![k0_pay9 lanes 16#32, cols n] h x)) = _
  rw [idxAt_cell _ n h x _ (high_lt x) (lanes_high x)]
  rfl

/-! ## Trips -/

variable (c : Fin τ.nSC) (i : Fin τ.nSub)

/-- A trip over the kernel's index vectors, whatever decides its assumptions, is the trip it is. -/
theorem canon (u : Bufs) (k : ℕ) (t : Fin 8) (off : Fin 1 → Nat) (inb : ∀ a, off a + S16.size a ≤ S1024.size a) (hoff : off 0 = 16 * t.val + 128 * k)
    (dC : Decidable (k0_chk7 (cols 0) (cols 1) (cols 2) (rowsAt t))) (dC' : ∀ v, Decidable (k0_chk8 v)) :
    IsTrip (F := F) c i u k t.val
      (trip c i u cols (rowsAt t) off inb (k0_chk7 (cols 0) (cols 1) (cols 2) (rowsAt t)) dC
        (fun h n => match n with
          | 0 => h.1
          | 1 => h.2.2.1
          | 2 => h.2.2.2.2.1)
        k0_chk8 dC' (fun _ h => h.1)) := by
  refine ⟨_, _, _, _, _, _, _, _, _, _, ⟨rows_in t 0, rows_in t 0, rows_in t 1, rows_in t 1, rows_in t 2, rows_in t 2⟩, ?_, rowsAt_val t, cols_val, hoff, rfl⟩
  intro v hv
  have h : ∀ (a : Fin 1) (x : S16.Idx), ((![v] : Fin 1 → IVec S16 32) a x).toNat < S16.size a := by
    intro a x
    fin_cases a
    exact hv x
  exact ⟨h, h, h, h, h, h⟩

end Cert.Proof.Colour
-- ==== Proof.Tile.lean ====
/-
  A tile's code, from what its memrefs read to what they read after it: the five parts the program is printed in and
  their tail, over any memrefs and semaphores.

  The tile keeps three chunks of colours coming in and three going out. Each step below waits for a chunk, makes it, and
  sends it; what a chunk's copy in or out holds while it flies is `loading` and `saving`.
-/
module

public import proofs.«01_k».proof.Proof.Canon

@[expose] public section

set_option maxRecDepth 16384

noncomputable section

namespace Cert.Proof.Colour

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

local notation "𝕄" => MT nD τ sig (HIx 1) (Elt F) ℕ UU ℕ

/-- The memrefs and semaphores a tile's code is called with: the colours, the camera numbers, the table and the result;
    three buffers of colours in and three out; the tile's camera numbers and table; three weight registers and three bias
    registers; the semaphores of their copies. -/
structure Args where
  a2 : Memref sig .scVector .hbm S32768x3 .f32
  h2 : a2.IsWhole
  a3 : Memref sig .scVector .hbm S32768 .i32
  h3 : a3.IsWhole
  a4 : Memref sig .scVector .hbm S32x3 .f32
  h4 : a4.IsWhole
  a5 : Memref sig .scVector .hbm S32768x3 .f32
  h5 : a5.IsWhole
  a6 : Memref sig .scVector .vmem S128x3 .f32
  h6 : a6.IsWhole
  a7 : Memref sig .scVector .vmem S128x3 .f32
  h7 : a7.IsWhole
  a8 : Memref sig .scVector .vmem S128x3 .f32
  h8 : a8.IsWhole
  a9 : Memref sig .scVector .vmem S128x3 .f32
  h9 : a9.IsWhole
  a10 : Memref sig .scVector .vmem S128x3 .f32
  h10 : a10.IsWhole
  a11 : Memref sig .scVector .vmem S128x3 .f32
  h11 : a11.IsWhole
  a12 : Memref sig .scVector .vmem S1024 .i32
  h12 : a12.IsWhole
  a13 : Memref sig .scVector .vmem S32x3 .f32
  h13 : a13.IsWhole
  a14 : Memref sig .scVector .vmem S16 .f32
  h14 : a14.IsWhole
  a15 : Memref sig .scVector .vmem S16 .f32
  h15 : a15.IsWhole
  a16 : Memref sig .scVector .vmem S16 .f32
  h16 : a16.IsWhole
  a17 : Memref sig .scVector .vmem S16 .f32
  h17 : a17.IsWhole
  a18 : Memref sig .scVector .vmem S16 .f32
  h18 : a18.IsWhole
  a19 : Memref sig .scVector .vmem S16 .f32
  h19 : a19.IsWhole
  s20 : DmaSems sig S_
  s21 : DmaSems sig S_
  s22 : DmaSems sig S_
  s23 : DmaSems sig S_
  s24 : DmaSems sig S_
  s25 : DmaSems sig S_
  s26 : DmaSems sig S_
  s27 : DmaSems sig S_

section Tile

variable [FloatOps F] (d : Dev nD) (L : grid0.Coords) (g : Args)

/-- The tile's SparseCore, -/
abbrev cV : Fin τ.nSC := (L 0).castLE hcore0
/-- and its place there. -/
abbrev jV : Fin τ.nSub := (L 1).castLE hsub0

/-- The tile's chunk `r` of the colours, -/
abbrev inSl (r : Fin 8) : Memref sig .scVector .hbm S128x3 .f32 :=
  g.a2.slice (Rect.unit (s := S32768x3) (k0_off4 L (BitVec.ofNat 32 (128 * r.val))) S128x3.size (k0_off4_inb L r)) (fun _ => rfl)
/-- of the result, -/
abbrev outSl (r : Fin 8) : Memref sig .scVector .hbm S128x3 .f32 :=
  g.a5.slice (Rect.unit (s := S32768x3) (k0_off4 L (BitVec.ofNat 32 (128 * r.val))) S128x3.size (k0_off4_inb L r)) (fun _ => rfl)
/-- and the tile's camera numbers. -/
abbrev idxSl : Memref sig .scVector .hbm S1024 .i32 :=
  g.a3.slice (Rect.unit (s := S32768) (k0_off3 L) S1024.size (k0_off3_inb L)) (fun _ => rfl)

abbrev full {sp : Space} {s : Shape} {e : EltTy} (A : Memref sig .scVector sp s e) (X : s.Idx → Elt F e) : sProp 𝕄 :=
  own d (cV L) (jV L) fullShare A X

abbrev zero (s : DmaSems sig S_) : sProp 𝕄 := semVal (V d (cV L) (jV L), SemLoc.dma s.sem) 0

/-- A buffer, whatever it reads. -/
def junk {sp : Space} {s : Shape} {e : EltTy} (A : Memref sig .scVector sp s e) : sProp 𝕄 := iprop(∃ X, full d L A X)

theorem junk_intro {sp : Space} {s : Shape} {e : EltTy} (A : Memref sig .scVector sp s e) (X : s.Idx → Elt F e) : full d L A X ⊢ junk d L A := by
  unfold junk
  iintro H
  iexists X; iexact H

abbrev may (O : CellTallies nD τ sig (HIx 1)) : sProp 𝕄 := Transfers.MayWaits (V d (cV L) (jV L)) (none : HIx 1) O

/-- Chunk `r` of the colours on its way into a buffer. -/
abbrev loading (R : Fin 8 → S128x3.Idx → Elt F .f32) (r : Fin 8) (A : Memref sig .scVector .vmem S128x3 .f32) (s : DmaSems sig S_) : sProp 𝕄 :=
  flying d (cV L) (jV L) s.sem A.view.dmaCredit iprop(full d L A (R r) ∗ full d L (inSl L g r) (R r))

/-- Chunk `r` of the result on its way out of a buffer. -/
abbrev saving (S : Fin 8 → S128x3.Idx → Elt F .f32) (r : Fin 8) (B : Memref sig .scVector .vmem S128x3 .f32) (s : DmaSems sig S_) : sProp 𝕄 :=
  flying d (cV L) (jV L) s.sem (outSl L g r).view.dmaCredit iprop(full d L (outSl L g r) (S r) ∗ full d L B (S r))

/-- The tile's camera numbers, weights and biases. -/
abbrev regs (J : S1024.Idx → Elt F .i32) (Tb : S32x3.Idx → Elt F .f32) : sProp 𝕄 :=
  iprop(full d L g.a12 J
    ∗ (full d L g.a14 (weight Tb 0) ∗ full d L g.a15 (weight Tb 1) ∗ full d L g.a16 (weight Tb 2))
    ∗ (full d L g.a17 (bias Tb 0) ∗ full d L g.a18 (bias Tb 1) ∗ full d L g.a19 (bias Tb 2)))

abbrev bufs (A B : Memref sig .scVector .vmem S128x3 .f32) : Bufs := ⟨A, B, g.a12, ![g.a14, g.a15, g.a16], ![g.a17, g.a18, g.a19]⟩

/-- What the tile makes of chunk `r`. -/
abbrev made (R : Fin 8 → S128x3.Idx → Elt F .f32) (J : S1024.Idx → Elt F .i32) (Tb : S32x3.Idx → Elt F .f32) (r : Fin 8) : S128x3.Idx → Elt F .f32 :=
  shade r.val r.isLt (R r) J (weight Tb) (bias Tb)

abbrev run {α : Type} (p : Prog (TpuEff nD τ sig (Elt F) Λ₀ (.scVector (cV L) (jV L))) α) (Q : α → sProp 𝕄) : sProp 𝕄 :=
  wp frame (wpE (defs₀ (F := F)) 𝒱₀ (V d (cV L) (jV L)) none) Set.univ p Q

/-- Chunk `r`'s loop, at the head of a program. -/
theorem wp_make (r : Fin 8) (A B : Memref sig .scVector .vmem S128x3 .f32) (R : Fin 8 → S128x3.Idx → Elt F .f32) (J : S1024.Idx → Elt F .i32)
    (hJ : ∀ x, (J x).toNat < 16) (Tb : S32x3.Idx → Elt F .f32) (Y : S128x3.Idx → Elt F .f32) {l : Scf.Loop 32} (hl : l.trips = 8) {hok : l.OK}
    {body : Fin l.trips → Unit → Prog (TpuEff nD τ sig (Elt F) Λ₀ (.scVector (cV L) (jV L))) Unit}
    (hbody : ∀ t acc, IsTrip (cV L) (jV L) (bufs g A B) r.val t.val (body t acc))
    {α : Type} {Q : α → sProp 𝕄} (kk : Unit → Prog (TpuEff nD τ sig (Elt F) Λ₀ (.scVector (cV L) (jV L))) α) :
    iprop(full d L A (R r) ∗ regs d L g J Tb ∗ full d L B Y)
      ⊢ iprop((iprop(full d L A (R r) ∗ regs d L g J Tb ∗ full d L B (made R J Tb r)) -∗ run d L (kk ⟨⟩) Q)
        -∗ run d L (Scf.Loop.for l hok ⟨⟩ body >>= kk) Q) := by
  iintro ⟨HA, Hr, HB⟩ Hk
  iapply (wp_chunk d (cV L) (jV L) (bufs g A B) r.val r.isLt (R r) J hJ (weight Tb) (bias Tb) l hl hok body hbody kk Y) $$ [HA Hr HB]
  · isplitl [HA Hr]
    · iapply (Entails.of_eq (still.eq_1 d (cV L) (jV L) (bufs g A B) (R r) J (weight Tb) (bias Tb)).symm) $$ [HA Hr]
      isplitl [HA]; · iexact HA
      iexact Hr
    · iexact HB
  iintro ⟨Hs, HB⟩
  ihave Hs := (Entails.of_eq (still.eq_1 d (cV L) (jV L) (bufs g A B) (R r) J (weight Tb) (bias Tb))) $$ Hs
  icases Hs with ⟨HA, Hr⟩
  iapply Hk
  isplitl [HA]; · iexact HA
  isplitl [Hr]; · iexact Hr
  iexact HB

variable {O : CellTallies nD τ sig (HIx 1)} {W : Waits sig (HIx 1)}
variable (R Z : Fin 8 → S128x3.Idx → Elt F .f32) (J : S1024.Idx → Elt F .i32) (Tb : S32x3.Idx → Elt F .f32)

/-- The first row of the tile's chunk, as the code computes it. -/
abbrev base : BitVec 32 := Scalar.muli (Scalar.addi (Scalar.muli (BitVec.ofNat 32 (L 1).val) 2#32) (BitVec.ofNat 32 (L 0).val)) 1024#32

/-- The first part: every input on its way, the table here. -/
theorem part1 (q : PosShare TreeShare) (T0 : S32x3.Idx → Elt F .f32) (J0 : S1024.Idx → Elt F .i32) (X0 X1 X2 : S128x3.Idx → Elt F .f32) {Q : (Σ' (_ : BitVec 32) (v14 : IVec S16 32) (_ : IVec S16 1) (_ : IVec S16 32) (v24 : IVec S16 32) (_ : k0_chk3 v14 v24) (v28 : IVec S16 32) (_ : k0_chk5 v14 v28) (_ : Vec F S16 .f32), BitVec 32) → sProp 𝕄} :
    iprop(own d (cV L) (jV L) q g.a4 Tb
        ∗ full d L g.a13 T0
        ∗ full d L (idxSl L g) J
        ∗ full d L g.a12 J0
        ∗ full d L (inSl L g 0) (R 0)
        ∗ full d L (inSl L g 1) (R 1)
        ∗ full d L (inSl L g 2) (R 2)
        ∗ full d L g.a6 X0
        ∗ full d L g.a7 X1
        ∗ full d L g.a8 X2
        ∗ zero d L g.s20
        ∗ zero d L g.s21
        ∗ zero d L g.s22
        ∗ zero d L g.s23
        ∗ zero d L g.s24
        ∗ waits d (cV L) (jV L) O W
        ∗ may d L O)
      ⊢ iprop((iprop(own d (cV L) (jV L) q g.a4 Tb
          ∗ full d L g.a13 Tb
          ∗ flying d (cV L) (jV L) g.s21.sem g.a12.view.dmaCredit iprop(full d L g.a12 J ∗ full d L (idxSl L g) J)
          ∗ loading d L g R 0 g.a6 g.s22
          ∗ loading d L g R 1 g.a7 g.s23
          ∗ loading d L g R 2 g.a8 g.s24
          ∗ zero d L g.s20
          ∗ waits d (cV L) (jV L) O W) -∗ Q ⟨base L, lanes, k0_pay5, k0_pay6, k0_pay7, low_in 1, k0_pay8, low_in 2, loadIdx Tb ![lanes, k0_pay6] (low_in 0), 16#32⟩)
        -∗ run d L (k0_part1_skel L g.a2 g.h2 g.a3 g.h3 g.a4 g.h4 g.a5 g.h5 g.a6 g.h6 g.a7 g.h7 g.a8 g.h8 g.a9 g.h9 g.a10 g.h10 g.a11 g.h11 g.a12 g.h12 g.a13 g.h13 g.a14 g.h14 g.a15 g.h15 g.a16 g.h16 g.a17 g.h17 g.a18 g.h18 g.a19 g.h19 g.s20 g.s21 g.s22 g.s23 g.s24 g.s25 g.s26 g.s27) Q) := by
  unfold k0_part1_skel
  iintro ⟨T, B13, J, B12, I0, I1, I2, B6, B7, B8, Z20, Z21, Z22, Z23, Z24, HW, #Hmw⟩ Hk
  iapply (wp_issue d _ _ _ q Tb T0 (View.dmaCredit_pos _ (by decide))) $$ [T B13 Z20]
  · isplitl [T]; · iexact T
    isplitl [B13]; · iexact B13
    iexact Z20
  iintro F20
  iapply (wp_issue d _ _ _ fullShare J J0 (View.dmaCredit_pos _ (by decide))) $$ [J B12 Z21]
  · isplitl [J]; · iexact J
    isplitl [B12]; · iexact B12
    iexact Z21
  iintro F21
  iapply (wp_issue d _ _ _ fullShare (R 0) X0 (View.dmaCredit_pos _ (by decide))) $$ [I0 B6 Z22]
  · isplitl [I0]; · iexact I0
    isplitl [B6]; · iexact B6
    iexact Z22
  iintro F22
  iapply (wp_issue d _ _ _ fullShare (R 1) X1 (View.dmaCredit_pos _ (by decide))) $$ [I1 B7 Z23]
  · isplitl [I1]; · iexact I1
    isplitl [B7]; · iexact B7
    iexact Z23
  iintro F23
  iapply (wp_issue d _ _ _ fullShare (R 2) X2 (View.dmaCredit_pos _ (by decide))) $$ [I2 B8 Z24]
  · isplitl [I2]; · iexact I2
    isplitl [B8]; · iexact B8
    iexact Z24
  iintro F24
  iapply (wp_await d _ _ _) $$ [F20 HW]
  · isplitl [F20]; · iexact F20
    isplitl [HW]; · iexact HW
    iexact Hmw
  iintro ⟨⟨B13, T⟩, Z20, HW⟩
  iapply (wp_known d _ _ _ (low_in 0))
  iapply (wp_known d _ _ _ (low_in 1))
  iapply (wp_known d _ _ _ (low_in 2))
  iapply (wp_gather d _ _ _) $$ B13
  iintro B13
  iapply (Entails.of_eq (wp_ret frame (wpE (defs₀ (F := F)) 𝒱₀ (V d (cV L) (jV L)) none) Set.univ _ _).symm); imodintro
  iapply Hk
  isplitl [T]; · iexact T
  isplitl [B13]; · iexact B13
  isplitl [F21]; · iexact F21
  isplitl [F22]; · iexact F22
  isplitl [F23]; · iexact F23
  isplitl [F24]; · iexact F24
  isplitl [Z20]; · iexact Z20
  iexact HW

/-- The second part: the weight registers and all but one bias register filled. -/
theorem part2 (Y0 Y1 Y2 Y3 Y4 Y5 : S16.Idx → Elt F .f32) {Q : FVec F S16 .f32 → sProp 𝕄} :
    iprop(full d L g.a13 Tb
        ∗ full d L g.a14 Y0
        ∗ full d L g.a15 Y1
        ∗ full d L g.a16 Y2
        ∗ full d L g.a17 Y3
        ∗ full d L g.a18 Y4
        ∗ full d L g.a19 Y5)
      ⊢ iprop((iprop(full d L g.a13 Tb
          ∗ full d L g.a14 (weight Tb 0)
          ∗ full d L g.a15 (weight Tb 1)
          ∗ full d L g.a16 (weight Tb 2)
          ∗ full d L g.a17 (bias Tb 0)
          ∗ full d L g.a18 (bias Tb 1)
          ∗ full d L g.a19 Y5) -∗ Q (k0_pay17 k0_pay5 (loadIdx Tb ![k0_pay15 lanes, k0_pay8] (high_in 2))))
        -∗ run d L (k0_part2_skel L g.a2 g.h2 g.a3 g.h3 g.a4 g.h4 g.a5 g.h5 g.a6 g.h6 g.a7 g.h7 g.a8 g.h8 g.a9 g.h9 g.a10 g.h10 g.a11 g.h11 g.a12 g.h12 g.a13 g.h13 g.a14 g.h14 g.a15 g.h15 g.a16 g.h16 g.a17 g.h17 g.a18 g.h18 g.a19 g.h19 g.s20 g.s21 g.s22 g.s23 g.s24 g.s25 g.s26 g.s27 lanes k0_pay5 k0_pay6 k0_pay7 (low_in 1) k0_pay8 (low_in 2) (loadIdx Tb ![lanes, k0_pay6] (low_in 0)) 16#32) Q) := by
  unfold k0_part2_skel
  iintro ⟨B13, B14, B15, B16, B17, B18, B19⟩ Hk
  iapply (wp_known d _ _ _ (high_in 0))
  iapply (wp_gather d _ _ _) $$ B13
  iintro B13
  iapply (wp_fetch d _ _ _) $$ B14
  iintro B14
  iapply (wp_put d _ _ (by funext a; fin_cases a; rfl) _) $$ B14
  iintro B14
  ihave B14 := (own_eq d _ _ _ _ (weight_eq Tb 0 _)) $$ B14
  iapply (wp_fetch d _ _ _) $$ B17
  iintro B17
  iapply (wp_put d _ _ (by funext a; fin_cases a; rfl) _) $$ B17
  iintro B17
  ihave B17 := (own_eq d _ _ _ _ (bias_eq Tb 0 _)) $$ B17
  iapply (wp_gather d _ _ _) $$ B13
  iintro B13
  iapply (wp_known d _ _ _ (high_in 1))
  iapply (wp_gather d _ _ _) $$ B13
  iintro B13
  iapply (wp_fetch d _ _ _) $$ B15
  iintro B15
  iapply (wp_put d _ _ (by funext a; fin_cases a; rfl) _) $$ B15
  iintro B15
  ihave B15 := (own_eq d _ _ _ _ (weight_eq Tb 1 _)) $$ B15
  iapply (wp_fetch d _ _ _) $$ B18
  iintro B18
  iapply (wp_put d _ _ (by funext a; fin_cases a; rfl) _) $$ B18
  iintro B18
  ihave B18 := (own_eq d _ _ _ _ (bias_eq Tb 1 _)) $$ B18
  iapply (wp_gather d _ _ _) $$ B13
  iintro B13
  iapply (wp_known d _ _ _ (high_in 2))
  iapply (wp_gather d _ _ _) $$ B13
  iintro B13
  iapply (wp_fetch d _ _ _) $$ B16
  iintro B16
  iapply (wp_put d _ _ (by funext a; fin_cases a; rfl) _) $$ B16
  iintro B16
  ihave B16 := (own_eq d _ _ _ _ (weight_eq Tb 2 _)) $$ B16
  iapply (wp_fetch d _ _ _) $$ B19
  iintro B19
  iapply (Entails.of_eq (wp_ret frame (wpE (defs₀ (F := F)) 𝒱₀ (V d (cV L) (jV L)) none) Set.univ _ _).symm); imodintro
  iapply Hk
  isplitl [B13]; · iexact B13
  isplitl [B14]; · iexact B14
  isplitl [B15]; · iexact B15
  isplitl [B16]; · iexact B16
  isplitl [B17]; · iexact B17
  isplitl [B18]; · iexact B18
  iexact B19

/-- The third part: the last bias register filled; chunks 0 and 1 made and on their way out. -/
theorem part3 (hJ : ∀ x, (J x).toNat < 16) (Y : S16.Idx → Elt F .f32) (Y0 Y1 : S128x3.Idx → Elt F .f32) {Q : BitVec 32 → sProp 𝕄} :
    iprop(full d L g.a14 (weight Tb 0)
        ∗ full d L g.a15 (weight Tb 1)
        ∗ full d L g.a16 (weight Tb 2)
        ∗ full d L g.a17 (bias Tb 0)
        ∗ full d L g.a18 (bias Tb 1)
        ∗ full d L g.a19 Y
        ∗ flying d (cV L) (jV L) g.s21.sem g.a12.view.dmaCredit iprop(full d L g.a12 J ∗ full d L (idxSl L g) J)
        ∗ loading d L g R 0 g.a6 g.s22
        ∗ loading d L g R 1 g.a7 g.s23
        ∗ loading d L g R 2 g.a8 g.s24
        ∗ full d L g.a9 Y0
        ∗ full d L g.a10 Y1
        ∗ full d L (outSl L g 0) (Z 0)
        ∗ full d L (outSl L g 1) (Z 1)
        ∗ full d L (inSl L g 3) (R 3)
        ∗ full d L (inSl L g 4) (R 4)
        ∗ zero d L g.s25
        ∗ zero d L g.s26
        ∗ waits d (cV L) (jV L) O W
        ∗ may d L O)
      ⊢ iprop((iprop(regs d L g J Tb
          ∗ full d L (idxSl L g) J
          ∗ zero d L g.s21
          ∗ full d L (inSl L g 0) (R 0)
          ∗ full d L (inSl L g 1) (R 1)
          ∗ full d L (inSl L g 2) (R 2)
          ∗ full d L g.a8 (R 2)
          ∗ zero d L g.s24
          ∗ saving d L g (made R J Tb) 0 g.a9 g.s25
          ∗ saving d L g (made R J Tb) 1 g.a10 g.s26
          ∗ loading d L g R 3 g.a6 g.s22
          ∗ loading d L g R 4 g.a7 g.s23
          ∗ waits d (cV L) (jV L) O W) -∗ Q 0#32)
        -∗ run d L (k0_part3_skel L g.a2 g.h2 g.a3 g.h3 g.a4 g.h4 g.a5 g.h5 g.a6 g.h6 g.a7 g.h7 g.a8 g.h8 g.a9 g.h9 g.a10 g.h10 g.a11 g.h11 g.a12 g.h12 g.a13 g.h13 g.a14 g.h14 g.a15 g.h15 g.a16 g.h16 g.a17 g.h17 g.a18 g.h18 g.a19 g.h19 g.s20 g.s21 g.s22 g.s23 g.s24 g.s25 g.s26 g.s27 (base L) lanes k0_pay6 k0_pay7 k0_pay8 (k0_pay17 k0_pay5 (loadIdx Tb ![k0_pay15 lanes, k0_pay8] (high_in 2)))) Q) := by
  unfold k0_part3_skel
  iintro ⟨B14, B15, B16, B17, B18, B19, F21, F22, F23, F24, B9, B10, U0, U1, I3, I4, Z25, Z26, HW, #Hmw⟩ Hk
  iapply (wp_put d _ _ (by funext a; fin_cases a; rfl) _) $$ B19
  iintro B19
  ihave B19 := (own_eq d _ _ _ _ (bias_eq Tb 2 _)) $$ B19
  iapply (wp_await d _ _ _) $$ [F21 HW]
  · isplitl [F21]; · iexact F21
    isplitl [HW]; · iexact HW
    iexact Hmw
  iintro ⟨⟨B12, J⟩, Z21, HW⟩
  ihave HR : regs d L g J Tb $$ [B12 B14 B15 B16 B17 B18 B19]
  · isplitl [B12]; · iexact B12
    isplitl [B14 B15 B16]
    · isplitl [B14]; · iexact B14
      isplitl [B15]; · iexact B15
      iexact B16
    · isplitl [B17]; · iexact B17
      isplitl [B18]; · iexact B18
      iexact B19
  iapply (wp_await d _ _ _) $$ [F22 HW]
  · isplitl [F22]; · iexact F22
    isplitl [HW]; · iexact HW
    iexact Hmw
  iintro ⟨⟨B6, I0⟩, Z22, HW⟩
  iapply (wp_make d L g 0 g.a6 g.a9 R J hJ Tb Y0 (l := k0_t1_loop) rfl
    (fun t _ => canon (cV L) (jV L) (bufs g g.a6 g.a9) 0 t (k0_off5 t) (k0_off5_inb t) (congrFun (k0_off5_eq t) 0) _ _) _) $$ [B6 HR B9]
  · isplitl [B6]; · iexact B6
    isplitl [HR]; · iexact HR
    iexact B9
  iintro ⟨B6, HR, B9⟩
  iapply (wp_issue d _ _ _ fullShare (made R J Tb 0) (Z 0) (View.dmaCredit_pos _ (by decide))) $$ [B9 U0 Z25]
  · isplitl [B9]; · iexact B9
    isplitl [U0]; · iexact U0
    iexact Z25
  iintro F25
  iapply (wp_issue d _ _ _ fullShare (R 3) (R 0) (View.dmaCredit_pos _ (by decide))) $$ [I3 B6 Z22]
  · isplitl [I3]; · iexact I3
    isplitl [B6]; · iexact B6
    iexact Z22
  iintro F22
  iapply (wp_await d _ _ _) $$ [F23 HW]
  · isplitl [F23]; · iexact F23
    isplitl [HW]; · iexact HW
    iexact Hmw
  iintro ⟨⟨B7, I1⟩, Z23, HW⟩
  iapply (wp_make d L g 1 g.a7 g.a10 R J hJ Tb Y1 (l := k0_t2_loop) rfl
    (fun t _ => canon (cV L) (jV L) (bufs g g.a7 g.a10) 1 t (k0_off6 t) (k0_off6_inb t) (congrFun (k0_off6_eq t) 0) _ _) _) $$ [B7 HR B10]
  · isplitl [B7]; · iexact B7
    isplitl [HR]; · iexact HR
    iexact B10
  iintro ⟨B7, HR, B10⟩
  iapply (wp_issue d _ _ _ fullShare (made R J Tb 1) (Z 1) (View.dmaCredit_pos _ (by decide))) $$ [B10 U1 Z26]
  · isplitl [B10]; · iexact B10
    isplitl [U1]; · iexact U1
    iexact Z26
  iintro F26
  iapply (wp_issue d _ _ _ fullShare (R 4) (R 1) (View.dmaCredit_pos _ (by decide))) $$ [I4 B7 Z23]
  · isplitl [I4]; · iexact I4
    isplitl [B7]; · iexact B7
    iexact Z23
  iintro F23
  iapply (wp_await d _ _ _) $$ [F24 HW]
  · isplitl [F24]; · iexact F24
    isplitl [HW]; · iexact HW
    iexact Hmw
  iintro ⟨⟨B8, I2⟩, Z24, HW⟩
  iapply (Entails.of_eq (wp_ret frame (wpE (defs₀ (F := F)) 𝒱₀ (V d (cV L) (jV L)) none) Set.univ _ _).symm); imodintro
  iapply Hk
  isplitl [HR]; · iexact HR
  isplitl [J]; · iexact J
  isplitl [Z21]; · iexact Z21
  isplitl [I0]; · iexact I0
  isplitl [I1]; · iexact I1
  isplitl [I2]; · iexact I2
  isplitl [B8]; · iexact B8
  isplitl [Z24]; · iexact Z24
  isplitl [F25]; · iexact F25
  isplitl [F26]; · iexact F26
  isplitl [F22]; · iexact F22
  isplitl [F23]; · iexact F23
  iexact HW

/-- The fourth part: chunks 2 and 3 made and on their way out. -/
theorem part4 (hJ : ∀ x, (J x).toNat < 16) (Y2 : S128x3.Idx → Elt F .f32) {Q : BitVec 32 → sProp 𝕄} :
    iprop(regs d L g J Tb
        ∗ full d L g.a8 (R 2)
        ∗ zero d L g.s24
        ∗ full d L g.a11 Y2
        ∗ full d L (outSl L g 2) (Z 2)
        ∗ full d L (outSl L g 3) (Z 3)
        ∗ zero d L g.s27
        ∗ full d L (inSl L g 5) (R 5)
        ∗ full d L (inSl L g 6) (R 6)
        ∗ saving d L g (made R J Tb) 0 g.a9 g.s25
        ∗ saving d L g (made R J Tb) 1 g.a10 g.s26
        ∗ loading d L g R 3 g.a6 g.s22
        ∗ loading d L g R 4 g.a7 g.s23
        ∗ waits d (cV L) (jV L) O W
        ∗ may d L O)
      ⊢ iprop((iprop(regs d L g J Tb
          ∗ full d L (inSl L g 3) (R 3)
          ∗ full d L (inSl L g 4) (R 4)
          ∗ full d L g.a7 (R 4)
          ∗ zero d L g.s23
          ∗ full d L g.a10 (made R J Tb 1)
          ∗ zero d L g.s26
          ∗ full d L (outSl L g 0) (made R J Tb 0)
          ∗ full d L (outSl L g 1) (made R J Tb 1)
          ∗ saving d L g (made R J Tb) 2 g.a11 g.s27
          ∗ saving d L g (made R J Tb) 3 g.a9 g.s25
          ∗ loading d L g R 5 g.a8 g.s24
          ∗ loading d L g R 6 g.a6 g.s22
          ∗ waits d (cV L) (jV L) O W) -∗ Q 0#32)
        -∗ run d L (k0_part4_skel L g.a2 g.h2 g.a3 g.h3 g.a4 g.h4 g.a5 g.h5 g.a6 g.h6 g.a7 g.h7 g.a8 g.h8 g.a9 g.h9 g.a10 g.h10 g.a11 g.h11 g.a12 g.h12 g.a13 g.h13 g.a14 g.h14 g.a15 g.h15 g.a16 g.h16 g.a17 g.h17 g.a18 g.h18 g.a19 g.h19 g.s20 g.s21 g.s22 g.s23 g.s24 g.s25 g.s26 g.s27 (base L) lanes k0_pay6 k0_pay7 k0_pay8 0#32) Q) := by
  unfold k0_part4_skel
  iintro ⟨HR, B8, Z24, B11, U2, U3, Z27, I5, I6, F25, F26, F22, F23, HW, #Hmw⟩ Hk
  iapply (wp_make d L g 2 g.a8 g.a11 R J hJ Tb Y2 (l := k0_t3_loop) rfl
    (fun t _ => canon (cV L) (jV L) (bufs g g.a8 g.a11) 2 t (k0_off7 t) (k0_off7_inb t) (congrFun (k0_off7_eq t) 0) _ _) _) $$ [B8 HR B11]
  · isplitl [B8]; · iexact B8
    isplitl [HR]; · iexact HR
    iexact B11
  iintro ⟨B8, HR, B11⟩
  iapply (wp_issue d _ _ _ fullShare (made R J Tb 2) (Z 2) (View.dmaCredit_pos _ (by decide))) $$ [B11 U2 Z27]
  · isplitl [B11]; · iexact B11
    isplitl [U2]; · iexact U2
    iexact Z27
  iintro F27
  iapply (wp_issue d _ _ _ fullShare (R 5) (R 2) (View.dmaCredit_pos _ (by decide))) $$ [I5 B8 Z24]
  · isplitl [I5]; · iexact I5
    isplitl [B8]; · iexact B8
    iexact Z24
  iintro F24
  iapply (wp_await d _ _ _) $$ [F22 HW]
  · isplitl [F22]; · iexact F22
    isplitl [HW]; · iexact HW
    iexact Hmw
  iintro ⟨⟨B6, I3⟩, Z22, HW⟩
  iapply (wp_await d _ _ _) $$ [F25 HW]
  · isplitl [F25]; · iexact F25
    isplitl [HW]; · iexact HW
    iexact Hmw
  iintro ⟨⟨U0, B9⟩, Z25, HW⟩
  iapply (wp_make d L g 3 g.a6 g.a9 R J hJ Tb (made R J Tb 0) (l := k0_t4_loop) rfl
    (fun t _ => canon (cV L) (jV L) (bufs g g.a6 g.a9) 3 t (k0_off8 t) (k0_off8_inb t) (congrFun (k0_off8_eq t) 0) _ _) _) $$ [B6 HR B9]
  · isplitl [B6]; · iexact B6
    isplitl [HR]; · iexact HR
    iexact B9
  iintro ⟨B6, HR, B9⟩
  iapply (wp_issue d _ _ _ fullShare (made R J Tb 3) (Z 3) (View.dmaCredit_pos _ (by decide))) $$ [B9 U3 Z25]
  · isplitl [B9]; · iexact B9
    isplitl [U3]; · iexact U3
    iexact Z25
  iintro F25
  iapply (wp_issue d _ _ _ fullShare (R 6) (R 3) (View.dmaCredit_pos _ (by decide))) $$ [I6 B6 Z22]
  · isplitl [I6]; · iexact I6
    isplitl [B6]; · iexact B6
    iexact Z22
  iintro F22
  iapply (wp_await d _ _ _) $$ [F23 HW]
  · isplitl [F23]; · iexact F23
    isplitl [HW]; · iexact HW
    iexact Hmw
  iintro ⟨⟨B7, I4⟩, Z23, HW⟩
  iapply (wp_await d _ _ _) $$ [F26 HW]
  · isplitl [F26]; · iexact F26
    isplitl [HW]; · iexact HW
    iexact Hmw
  iintro ⟨⟨U1, B10⟩, Z26, HW⟩
  iapply (Entails.of_eq (wp_ret frame (wpE (defs₀ (F := F)) 𝒱₀ (V d (cV L) (jV L)) none) Set.univ _ _).symm); imodintro
  iapply Hk
  isplitl [HR]; · iexact HR
  isplitl [I3]; · iexact I3
  isplitl [I4]; · iexact I4
  isplitl [B7]; · iexact B7
  isplitl [Z23]; · iexact Z23
  isplitl [B10]; · iexact B10
  isplitl [Z26]; · iexact Z26
  isplitl [U0]; · iexact U0
  isplitl [U1]; · iexact U1
  isplitl [F27]; · iexact F27
  isplitl [F25]; · iexact F25
  isplitl [F24]; · iexact F24
  isplitl [F22]; · iexact F22
  iexact HW

/-- The fifth part: chunks 4, 5 and 6 made. -/
theorem part5 (hJ : ∀ x, (J x).toNat < 16) {Q : Unit → sProp 𝕄} :
    iprop(regs d L g J Tb
        ∗ full d L g.a7 (R 4)
        ∗ zero d L g.s23
        ∗ full d L g.a10 (made R J Tb 1)
        ∗ zero d L g.s26
        ∗ full d L (outSl L g 4) (Z 4)
        ∗ full d L (outSl L g 5) (Z 5)
        ∗ full d L (inSl L g 7) (R 7)
        ∗ saving d L g (made R J Tb) 2 g.a11 g.s27
        ∗ saving d L g (made R J Tb) 3 g.a9 g.s25
        ∗ loading d L g R 5 g.a8 g.s24
        ∗ loading d L g R 6 g.a6 g.s22
        ∗ waits d (cV L) (jV L) O W
        ∗ may d L O)
      ⊢ iprop((iprop(regs d L g J Tb
          ∗ full d L (inSl L g 5) (R 5)
          ∗ full d L (inSl L g 6) (R 6)
          ∗ full d L g.a8 (R 5)
          ∗ zero d L g.s24
          ∗ full d L g.a6 (R 6)
          ∗ zero d L g.s22
          ∗ full d L (outSl L g 2) (made R J Tb 2)
          ∗ full d L (outSl L g 3) (made R J Tb 3)
          ∗ full d L g.a9 (made R J Tb 6)
          ∗ zero d L g.s25
          ∗ saving d L g (made R J Tb) 4 g.a10 g.s26
          ∗ saving d L g (made R J Tb) 5 g.a11 g.s27
          ∗ loading d L g R 7 g.a7 g.s23
          ∗ waits d (cV L) (jV L) O W) -∗ Q ⟨⟩)
        -∗ run d L (k0_part5_skel L g.a2 g.h2 g.a3 g.h3 g.a4 g.h4 g.a5 g.h5 g.a6 g.h6 g.a7 g.h7 g.a8 g.h8 g.a9 g.h9 g.a10 g.h10 g.a11 g.h11 g.a12 g.h12 g.a13 g.h13 g.a14 g.h14 g.a15 g.h15 g.a16 g.h16 g.a17 g.h17 g.a18 g.h18 g.a19 g.h19 g.s20 g.s21 g.s22 g.s23 g.s24 g.s25 g.s26 g.s27 (base L) lanes k0_pay6 k0_pay7 k0_pay8 0#32) Q) := by
  unfold k0_part5_skel
  iintro ⟨HR, B7, Z23, B10, Z26, U4, U5, I7, F27, F25, F24, F22, HW, #Hmw⟩ Hk
  iapply (wp_make d L g 4 g.a7 g.a10 R J hJ Tb (made R J Tb 1) (l := k0_t5_loop) rfl
    (fun t _ => canon (cV L) (jV L) (bufs g g.a7 g.a10) 4 t (k0_off9 t) (k0_off9_inb t) (congrFun (k0_off9_eq t) 0) _ _) _) $$ [B7 HR B10]
  · isplitl [B7]; · iexact B7
    isplitl [HR]; · iexact HR
    iexact B10
  iintro ⟨B7, HR, B10⟩
  iapply (wp_issue d _ _ _ fullShare (made R J Tb 4) (Z 4) (View.dmaCredit_pos _ (by decide))) $$ [B10 U4 Z26]
  · isplitl [B10]; · iexact B10
    isplitl [U4]; · iexact U4
    iexact Z26
  iintro F26
  iapply (wp_issue d _ _ _ fullShare (R 7) (R 4) (View.dmaCredit_pos _ (by decide))) $$ [I7 B7 Z23]
  · isplitl [I7]; · iexact I7
    isplitl [B7]; · iexact B7
    iexact Z23
  iintro F23
  iapply (wp_await d _ _ _) $$ [F24 HW]
  · isplitl [F24]; · iexact F24
    isplitl [HW]; · iexact HW
    iexact Hmw
  iintro ⟨⟨B8, I5⟩, Z24, HW⟩
  iapply (wp_await d _ _ _) $$ [F27 HW]
  · isplitl [F27]; · iexact F27
    isplitl [HW]; · iexact HW
    iexact Hmw
  iintro ⟨⟨U2, B11⟩, Z27, HW⟩
  iapply (wp_make d L g 5 g.a8 g.a11 R J hJ Tb (made R J Tb 2) (l := k0_t6_loop) rfl
    (fun t _ => canon (cV L) (jV L) (bufs g g.a8 g.a11) 5 t (k0_off10 t) (k0_off10_inb t) (congrFun (k0_off10_eq t) 0) _ _) _) $$ [B8 HR B11]
  · isplitl [B8]; · iexact B8
    isplitl [HR]; · iexact HR
    iexact B11
  iintro ⟨B8, HR, B11⟩
  iapply (wp_issue d _ _ _ fullShare (made R J Tb 5) (Z 5) (View.dmaCredit_pos _ (by decide))) $$ [B11 U5 Z27]
  · isplitl [B11]; · iexact B11
    isplitl [U5]; · iexact U5
    iexact Z27
  iintro F27
  iapply (wp_await d _ _ _) $$ [F22 HW]
  · isplitl [F22]; · iexact F22
    isplitl [HW]; · iexact HW
    iexact Hmw
  iintro ⟨⟨B6, I6⟩, Z22, HW⟩
  iapply (wp_await d _ _ _) $$ [F25 HW]
  · isplitl [F25]; · iexact F25
    isplitl [HW]; · iexact HW
    iexact Hmw
  iintro ⟨⟨U3, B9⟩, Z25, HW⟩
  iapply (wp_make d L g 6 g.a6 g.a9 R J hJ Tb (made R J Tb 3) (l := k0_t7_loop) rfl
    (fun t _ => canon (cV L) (jV L) (bufs g g.a6 g.a9) 6 t (k0_off11 t) (k0_off11_inb t) (congrFun (k0_off11_eq t) 0) _ _) _) $$ [B6 HR B9]
  · isplitl [B6]; · iexact B6
    isplitl [HR]; · iexact HR
    iexact B9
  iintro ⟨B6, HR, B9⟩
  iapply (Entails.of_eq (wp_ret frame (wpE (defs₀ (F := F)) 𝒱₀ (V d (cV L) (jV L)) none) Set.univ _ _).symm); imodintro
  iapply Hk
  isplitl [HR]; · iexact HR
  isplitl [I5]; · iexact I5
  isplitl [I6]; · iexact I6
  isplitl [B8]; · iexact B8
  isplitl [Z24]; · iexact Z24
  isplitl [B6]; · iexact B6
  isplitl [Z22]; · iexact Z22
  isplitl [U2]; · iexact U2
  isplitl [U3]; · iexact U3
  isplitl [B9]; · iexact B9
  isplitl [Z25]; · iexact Z25
  isplitl [F26]; · iexact F26
  isplitl [F27]; · iexact F27
  isplitl [F23]; · iexact F23
  iexact HW

/-- A program before another. -/
theorem run_bind {α β : Type} (p : Prog (TpuEff nD τ sig (Elt F) Λ₀ (.scVector (cV L) (jV L))) α)
    (k : α → Prog (TpuEff nD τ sig (Elt F) Λ₀ (.scVector (cV L) (jV L))) β) {Q : β → sProp 𝕄} :
    run d L p (fun a => run d L (k a) Q) ⊢ run d L (p >>= k) Q := by
  unfold run
  rw [wp_bind]

/-- Over eight chunks: the eight. -/
theorem bigSep_eight (Φ : Fin 8 → sProp 𝕄) :
    bigSep Finset.univ Φ = iprop(Φ 0 ∗ Φ 1 ∗ Φ 2 ∗ Φ 3 ∗ Φ 4 ∗ Φ 5 ∗ Φ 6 ∗ Φ 7) := by
  rw [bigSep_univ_eq_bigSepL [0, 1, 2, 3, 4, 5, 6, 7] (by decide) (by decide) Φ]
  rfl

/-- The tile's buffers, whatever they read, -/
def scratch : sProp 𝕄 :=
  iprop(junk d L g.a6
    ∗ junk d L g.a7
    ∗ junk d L g.a8
    ∗ junk d L g.a9
    ∗ junk d L g.a10
    ∗ junk d L g.a11
    ∗ junk d L g.a12
    ∗ junk d L g.a13
    ∗ junk d L g.a14
    ∗ junk d L g.a15
    ∗ junk d L g.a16
    ∗ junk d L g.a17
    ∗ junk d L g.a18
    ∗ junk d L g.a19)

/-- and its copies' semaphores at zero. -/
def sems : sProp 𝕄 :=
  iprop(zero d L g.s20
    ∗ zero d L g.s21
    ∗ zero d L g.s22
    ∗ zero d L g.s23
    ∗ zero d L g.s24
    ∗ zero d L g.s25
    ∗ zero d L g.s26
    ∗ zero d L g.s27)

/-- The tile's code: from the colours, the camera numbers and the table, the result's eight chunks. -/
theorem tile_code (hJ : ∀ x, (J x).toNat < 16) (q : PosShare TreeShare) :
    iprop(own d (cV L) (jV L) q g.a4 Tb
        ∗ full d L (idxSl L g) J
        ∗ (bigSep Finset.univ fun r : Fin 8 => full d L (inSl L g r) (R r))
        ∗ (bigSep Finset.univ fun r : Fin 8 => full d L (outSl L g r) (Z r))
        ∗ scratch d L g
        ∗ sems d L g
        ∗ waits d (cV L) (jV L) O W
        ∗ may d L O)
      ⊢ run d L (cc0__colorcal_sc L g.a2 g.h2 g.a3 g.h3 g.a4 g.h4 g.a5 g.h5 g.a6 g.h6 g.a7 g.h7 g.a8 g.h8 g.a9 g.h9 g.a10 g.h10 g.a11 g.h11 g.a12 g.h12 g.a13 g.h13 g.a14 g.h14 g.a15 g.h15 g.a16 g.h16 g.a17 g.h17 g.a18 g.h18 g.a19 g.h19 g.s20 g.s21 g.s22 g.s23 g.s24 g.s25 g.s26 g.s27) fun _ =>
        iprop(own d (cV L) (jV L) q g.a4 Tb
          ∗ full d L (idxSl L g) J
          ∗ (bigSep Finset.univ fun r : Fin 8 => full d L (inSl L g r) (R r))
          ∗ (bigSep Finset.univ fun r : Fin 8 => full d L (outSl L g r) (made R J Tb r))
          ∗ scratch d L g
          ∗ sems d L g
          ∗ waits d (cV L) (jV L) O W) := by
  rw [cc0__colorcal_sc_eq_skeleton, bigSep_eight, bigSep_eight, bigSep_eight]
  unfold cc0__colorcal_sc_skel scratch sems
  rw [k0_part1_eq_skeleton, k0_part2_eq_skeleton, k0_part3_eq_skeleton, k0_part4_eq_skeleton, k0_part5_eq_skeleton]
  iintro ⟨T, J, ⟨I0, I1, I2, I3, I4, I5, I6, I7⟩, ⟨U0, U1, U2, U3, U4, U5, U6, U7⟩, ⟨B6, B7, B8, B9, B10, B11, B12, B13, B14, B15, B16, B17, B18, B19⟩, ⟨Z20, Z21, Z22, Z23, Z24, Z25, Z26, Z27⟩, HW, #Hmw⟩
  ihave B6 := (Entails.of_eq (junk.eq_1 d L g.a6)) $$ B6
  ihave B7 := (Entails.of_eq (junk.eq_1 d L g.a7)) $$ B7
  ihave B8 := (Entails.of_eq (junk.eq_1 d L g.a8)) $$ B8
  ihave B9 := (Entails.of_eq (junk.eq_1 d L g.a9)) $$ B9
  ihave B10 := (Entails.of_eq (junk.eq_1 d L g.a10)) $$ B10
  ihave B11 := (Entails.of_eq (junk.eq_1 d L g.a11)) $$ B11
  ihave B12 := (Entails.of_eq (junk.eq_1 d L g.a12)) $$ B12
  ihave B13 := (Entails.of_eq (junk.eq_1 d L g.a13)) $$ B13
  ihave B14 := (Entails.of_eq (junk.eq_1 d L g.a14)) $$ B14
  ihave B15 := (Entails.of_eq (junk.eq_1 d L g.a15)) $$ B15
  ihave B16 := (Entails.of_eq (junk.eq_1 d L g.a16)) $$ B16
  ihave B17 := (Entails.of_eq (junk.eq_1 d L g.a17)) $$ B17
  ihave B18 := (Entails.of_eq (junk.eq_1 d L g.a18)) $$ B18
  ihave B19 := (Entails.of_eq (junk.eq_1 d L g.a19)) $$ B19
  icases B6 with ⟨%X6, B6⟩
  icases B7 with ⟨%X7, B7⟩
  icases B8 with ⟨%X8, B8⟩
  icases B9 with ⟨%X9, B9⟩
  icases B10 with ⟨%X10, B10⟩
  icases B11 with ⟨%X11, B11⟩
  icases B12 with ⟨%X12, B12⟩
  icases B13 with ⟨%X13, B13⟩
  icases B14 with ⟨%X14, B14⟩
  icases B15 with ⟨%X15, B15⟩
  icases B16 with ⟨%X16, B16⟩
  icases B17 with ⟨%X17, B17⟩
  icases B18 with ⟨%X18, B18⟩
  icases B19 with ⟨%X19, B19⟩
  iapply (run_bind d L _ _)
  iapply (part1 d L g R J Tb q X13 X12 X6 X7 X8) $$ [T B13 J B12 I0 I1 I2 B6 B7 B8 Z20 Z21 Z22 Z23 Z24 HW]
  · isplitl [T]; · iexact T
    isplitl [B13]; · iexact B13
    isplitl [J]; · iexact J
    isplitl [B12]; · iexact B12
    isplitl [I0]; · iexact I0
    isplitl [I1]; · iexact I1
    isplitl [I2]; · iexact I2
    isplitl [B6]; · iexact B6
    isplitl [B7]; · iexact B7
    isplitl [B8]; · iexact B8
    isplitl [Z20]; · iexact Z20
    isplitl [Z21]; · iexact Z21
    isplitl [Z22]; · iexact Z22
    isplitl [Z23]; · iexact Z23
    isplitl [Z24]; · iexact Z24
    isplitl [HW]; · iexact HW
    iexact Hmw
  iintro ⟨T, B13, F21, F22, F23, F24, Z20, HW⟩
  try dsimp only
  iapply (run_bind d L _ _)
  iapply (part2 d L g Tb X14 X15 X16 X17 X18 X19) $$ [B13 B14 B15 B16 B17 B18 B19]
  · isplitl [B13]; · iexact B13
    isplitl [B14]; · iexact B14
    isplitl [B15]; · iexact B15
    isplitl [B16]; · iexact B16
    isplitl [B17]; · iexact B17
    isplitl [B18]; · iexact B18
    iexact B19
  iintro ⟨B13, B14, B15, B16, B17, B18, B19⟩
  try dsimp only
  iapply (run_bind d L _ _)
  iapply (part3 d L g R Z J Tb hJ X19 X9 X10) $$ [B14 B15 B16 B17 B18 B19 F21 F22 F23 F24 B9 B10 U0 U1 I3 I4 Z25 Z26 HW]
  · isplitl [B14]; · iexact B14
    isplitl [B15]; · iexact B15
    isplitl [B16]; · iexact B16
    isplitl [B17]; · iexact B17
    isplitl [B18]; · iexact B18
    isplitl [B19]; · iexact B19
    isplitl [F21]; · iexact F21
    isplitl [F22]; · iexact F22
    isplitl [F23]; · iexact F23
    isplitl [F24]; · iexact F24
    isplitl [B9]; · iexact B9
    isplitl [B10]; · iexact B10
    isplitl [U0]; · iexact U0
    isplitl [U1]; · iexact U1
    isplitl [I3]; · iexact I3
    isplitl [I4]; · iexact I4
    isplitl [Z25]; · iexact Z25
    isplitl [Z26]; · iexact Z26
    isplitl [HW]; · iexact HW
    iexact Hmw
  iintro ⟨HR, J, Z21, I0, I1, I2, B8, Z24, F25, F26, F22, F23, HW⟩
  try dsimp only
  iapply (run_bind d L _ _)
  iapply (part4 d L g R Z J Tb hJ X11) $$ [HR B8 Z24 B11 U2 U3 Z27 I5 I6 F25 F26 F22 F23 HW]
  · isplitl [HR]; · iexact HR
    isplitl [B8]; · iexact B8
    isplitl [Z24]; · iexact Z24
    isplitl [B11]; · iexact B11
    isplitl [U2]; · iexact U2
    isplitl [U3]; · iexact U3
    isplitl [Z27]; · iexact Z27
    isplitl [I5]; · iexact I5
    isplitl [I6]; · iexact I6
    isplitl [F25]; · iexact F25
    isplitl [F26]; · iexact F26
    isplitl [F22]; · iexact F22
    isplitl [F23]; · iexact F23
    isplitl [HW]; · iexact HW
    iexact Hmw
  iintro ⟨HR, I3, I4, B7, Z23, B10, Z26, U0, U1, F27, F25, F24, F22, HW⟩
  try dsimp only
  iapply (run_bind d L _ _)
  iapply (part5 d L g R Z J Tb hJ) $$ [HR B7 Z23 B10 Z26 U4 U5 I7 F27 F25 F24 F22 HW]
  · isplitl [HR]; · iexact HR
    isplitl [B7]; · iexact B7
    isplitl [Z23]; · iexact Z23
    isplitl [B10]; · iexact B10
    isplitl [Z26]; · iexact Z26
    isplitl [U4]; · iexact U4
    isplitl [U5]; · iexact U5
    isplitl [I7]; · iexact I7
    isplitl [F27]; · iexact F27
    isplitl [F25]; · iexact F25
    isplitl [F24]; · iexact F24
    isplitl [F22]; · iexact F22
    isplitl [HW]; · iexact HW
    iexact Hmw
  iintro ⟨HR, I5, I6, B8, Z24, B6, Z22, U2, U3, B9, Z25, F26, F27, F23, HW⟩
  try dsimp only
  iapply (wp_issue d _ _ _ fullShare (made R J Tb 6) (Z 6) (View.dmaCredit_pos _ (by decide))) $$ [B9 U6 Z25]
  · isplitl [B9]; · iexact B9
    isplitl [U6]; · iexact U6
    iexact Z25
  iintro F25
  iapply (wp_await d _ _ _) $$ [F23 HW]
  · isplitl [F23]; · iexact F23
    isplitl [HW]; · iexact HW
    iexact Hmw
  iintro ⟨⟨B7, I7⟩, Z23, HW⟩
  iapply (wp_await d _ _ _) $$ [F26 HW]
  · isplitl [F26]; · iexact F26
    isplitl [HW]; · iexact HW
    iexact Hmw
  iintro ⟨⟨U4, B10⟩, Z26, HW⟩
  iapply (wp_make d L g 7 g.a7 g.a10 R J hJ Tb (made R J Tb 4) (l := k0_t8_loop) rfl
    (fun t _ => canon (cV L) (jV L) (bufs g g.a7 g.a10) 7 t (k0_off12 t) (k0_off12_inb t) (congrFun (k0_off12_eq t) 0) _ _) _) $$ [B7 HR B10]
  · isplitl [B7]; · iexact B7
    isplitl [HR]; · iexact HR
    iexact B10
  iintro ⟨B7, HR, B10⟩
  iapply (wp_issue d _ _ _ fullShare (made R J Tb 7) (Z 7) (View.dmaCredit_pos _ (by decide))) $$ [B10 U7 Z26]
  · isplitl [B10]; · iexact B10
    isplitl [U7]; · iexact U7
    iexact Z26
  iintro F26
  iapply (wp_await d _ _ _) $$ [F25 HW]
  · isplitl [F25]; · iexact F25
    isplitl [HW]; · iexact HW
    iexact Hmw
  iintro ⟨⟨U6, B9⟩, Z25, HW⟩
  iapply (wp_await d _ _ _) $$ [F26 HW]
  · isplitl [F26]; · iexact F26
    isplitl [HW]; · iexact HW
    iexact Hmw
  iintro ⟨⟨U7, B10⟩, Z26, HW⟩
  iapply (wp_await d _ _ _) $$ [F27 HW]
  · isplitl [F27]; · iexact F27
    isplitl [HW]; · iexact HW
    iexact Hmw
  iintro ⟨⟨U5, B11⟩, Z27, HW⟩
  iapply (Entails.of_eq (wp_ret frame (wpE (defs₀ (F := F)) 𝒱₀ (V d (cV L) (jV L)) none) Set.univ _ _).symm); imodintro
  icases HR with ⟨B12, ⟨B14, B15, B16⟩, ⟨B17, B18, B19⟩⟩
  isplitl [T]; · iexact T
  isplitl [J]; · iexact J
  isplitl [I0 I1 I2 I3 I4 I5 I6 I7]
  · isplitl [I0]; · iexact I0
    isplitl [I1]; · iexact I1
    isplitl [I2]; · iexact I2
    isplitl [I3]; · iexact I3
    isplitl [I4]; · iexact I4
    isplitl [I5]; · iexact I5
    isplitl [I6]; · iexact I6
    iexact I7
  isplitl [U0 U1 U2 U3 U4 U5 U6 U7]
  · isplitl [U0]; · iexact U0
    isplitl [U1]; · iexact U1
    isplitl [U2]; · iexact U2
    isplitl [U3]; · iexact U3
    isplitl [U4]; · iexact U4
    isplitl [U5]; · iexact U5
    isplitl [U6]; · iexact U6
    iexact U7
  isplitl [B6 B7 B8 B9 B10 B11 B12 B13 B14 B15 B16 B17 B18 B19]
  · isplitl [B6]; · iapply (junk_intro d L _ _) $$ B6
    isplitl [B7]; · iapply (junk_intro d L _ _) $$ B7
    isplitl [B8]; · iapply (junk_intro d L _ _) $$ B8
    isplitl [B9]; · iapply (junk_intro d L _ _) $$ B9
    isplitl [B10]; · iapply (junk_intro d L _ _) $$ B10
    isplitl [B11]; · iapply (junk_intro d L _ _) $$ B11
    isplitl [B12]; · iapply (junk_intro d L _ _) $$ B12
    isplitl [B13]; · iapply (junk_intro d L _ _) $$ B13
    isplitl [B14]; · iapply (junk_intro d L _ _) $$ B14
    isplitl [B15]; · iapply (junk_intro d L _ _) $$ B15
    isplitl [B16]; · iapply (junk_intro d L _ _) $$ B16
    isplitl [B17]; · iapply (junk_intro d L _ _) $$ B17
    isplitl [B18]; · iapply (junk_intro d L _ _) $$ B18
    iapply (junk_intro d L _ _) $$ B19
  isplitl [Z20 Z21 Z22 Z23 Z24 Z25 Z26 Z27]
  · isplitl [Z20]; · iexact Z20
    isplitl [Z21]; · iexact Z21
    isplitl [Z22]; · iexact Z22
    isplitl [Z23]; · iexact Z23
    isplitl [Z24]; · iexact Z24
    isplitl [Z25]; · iexact Z25
    isplitl [Z26]; · iexact Z26
    iexact Z27
  iexact HW

end Tile

end Cert.Proof.Colour
-- ==== Proof.Body.lean ====
/-
  A tile of the launch: its memrefs, what it takes of the arrays and what it hands back, and its run.
-/
module

public import proofs.«01_k».proof.Proof.Tile

@[expose] public section

set_option maxRecDepth 16384

noncomputable section

namespace Cert.Proof.Colour

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

local notation "𝕄" => MT nD τ sig (HIx 1) (Elt F) ℕ UU ℕ

/-! ## The result -/

variable [FloatOps F]

/-- A colour's row. -/
def rowOf (j : S32768x3.Idx) : S32768.Idx := fun
  | 0 => j 0

/-- The result from the colours, the camera numbers and the table: each colour times its camera's weight plus its
    camera's bias, channel by channel. -/
def colour (X : S32768x3.Idx → Elt F .f32) (J : S32768.Idx → Elt F .i32) (Tb : S32x3.Idx → Elt F .f32) : S32768x3.Idx → Elt F .f32 := fun j =>
  FloatOps.addf (FloatOps.mulf (X j) (weight Tb (j 1) (cam (J (rowOf j))))) (bias Tb (j 1) (cam (J (rowOf j))))

/-! ## A tile's memrefs and its elements of the arrays -/

/-- What a tile's code is called with: the arrays whole, and the tile's scratch. -/
abbrev kargs : Args :=
  ⟨Memref.whole main_arg0_scv, Memref.isWhole_whole _, Memref.whole main_arg1_scv, Memref.isWhole_whole _, Memref.whole main_v0_scv, Memref.isWhole_whole _, Memref.whole main_v1_scv, Memref.isWhole_whole _,
    Memref.whole cc0_scratch0, Memref.isWhole_whole _, Memref.whole cc0_scratch1, Memref.isWhole_whole _, Memref.whole cc0_scratch2, Memref.isWhole_whole _, Memref.whole cc0_scratch3, Memref.isWhole_whole _, Memref.whole cc0_scratch4, Memref.isWhole_whole _, Memref.whole cc0_scratch5, Memref.isWhole_whole _, Memref.whole cc0_scratch6, Memref.isWhole_whole _,
    Memref.whole cc0_scratch7, Memref.isWhole_whole _, Memref.whole cc0_scratch8, Memref.isWhole_whole _, Memref.whole cc0_scratch9, Memref.isWhole_whole _, Memref.whole cc0_scratch10, Memref.isWhole_whole _, Memref.whole cc0_scratch11, Memref.isWhole_whole _, Memref.whole cc0_scratch12, Memref.isWhole_whole _, Memref.whole cc0_scratch13, Memref.isWhole_whole _,
    cc0_scratch14, cc0_scratch15, cc0_scratch16, cc0_scratch17, cc0_scratch18, cc0_scratch19, cc0_scratch20, cc0_scratch21⟩

variable (d : Dev nD) (L : grid0.Coords)

abbrev rgbLoc : Loc nD τ sig := (SparseCore.T d).loc main_arg0
abbrev idxLoc : Loc nD τ sig := (SparseCore.T d).loc main_arg1
abbrev tabLoc : Loc nD τ sig := (SparseCore.T d).loc main_v0
abbrev outLoc : Loc nD τ sig := (SparseCore.T d).loc main_v1

/-- Chunk `r`'s elements of the colours and of the result, -/
abbrev chunkRect (r : Fin 8) : Rect S32768x3 :=
  Rect.unit (s := S32768x3) (k0_off4 L (BitVec.ofNat 32 (128 * r.val))) S128x3.size (k0_off4_inb L r)
/-- and the tile's of the camera numbers. -/
abbrev idxRect : Rect S32768 := Rect.unit (s := S32768) (k0_off3 L) S1024.size (k0_off3_inb L)

/-- The share of the table the tile reads with. -/
def part (L : grid0.Coords) : PosShare TreeShare :=
  Transfers.dealOf (Transfers.dealOf fullShare (Finset.univ : Finset (Fin 2)) (L 0)) (Finset.univ : Finset (Fin 16)) (L 1)

/-- A tile's elements of the arrays: a share of the table, its camera numbers, its chunks of the colours and, at `f`,
    its chunks of the result. -/
def share (X : Buf (Elt F) (rgbLoc d)) (J : Buf (Elt F) (idxLoc d)) (Tb : Buf (Elt F) (tabLoc d)) (f : Buf (Elt F) (outLoc d)) : sProp 𝕄 :=
  iprop((tabLoc d ↦{part L} Tb) ∗ (idxLoc d ↦[(idxRect L).set]{fullShare} J)
    ∗ (bigSep Finset.univ fun r : Fin 8 => rgbLoc d ↦[(chunkRect L r).set]{fullShare} X)
    ∗ (bigSep Finset.univ fun r : Fin 8 => outLoc d ↦[(chunkRect L r).set]{fullShare} f))

instance share_storable (X : Buf (Elt F) (rgbLoc d)) (J : Buf (Elt F) (idxLoc d)) (Tb : Buf (Elt F) (tabLoc d)) (f : Buf (Elt F) (outLoc d)) :
    BI.Storable (upEmb : UEmb _ 𝕄) (share d L X J Tb f) := by
  unfold share; infer_instance

/-! ## A tile's own semaphores and buffers -/

/-- The copies' semaphores, -/
abbrev semList : List (DmaSems sig S_) := [cc0_scratch14, cc0_scratch15, cc0_scratch16, cc0_scratch17, cc0_scratch18, cc0_scratch19, cc0_scratch20, cc0_scratch21]
/-- and the scratch buffers. -/
abbrev bufList : List (Ref sig .scVector) := [cc0_scratch0, cc0_scratch1, cc0_scratch2, cc0_scratch3, cc0_scratch4, cc0_scratch5, cc0_scratch6, cc0_scratch7, cc0_scratch8, cc0_scratch9, cc0_scratch10, cc0_scratch11, cc0_scratch12, cc0_scratch13]

theorem ownSems0_V :
    ∃ Rest : sProp 𝕄, (SparseCore.Cfg.ownSems0 (V d (cV L) (jV L)) : sProp 𝕄) = iprop(sems d L kargs ∗ Rest) := by
  have hn : (semList.map fun s => ((V d (cV L) (jV L), SemLoc.dma s.sem) : GSem nD τ sig)).Nodup := by
    rw [show (semList.map fun s => ((V d (cV L) (jV L), SemLoc.dma s.sem) : GSem nD τ sig))
      = (semList.map fun s => (SemLoc.dma s.sem : SemLoc sig)).map (Prod.mk (V d (cV L) (jV L))) from by rw [List.map_map]; rfl]
    exact List.Nodup.map (fun _ _ e => (Prod.mk.inj e).2) (by decide)
  have hs : (semList.map fun s => ((V d (cV L) (jV L), SemLoc.dma s.sem) : GSem nD τ sig)).toFinset ⊆ SparseCore.Cfg.ownCells (V d (cV L) (jV L)) := by
    intro g hg
    obtain ⟨s, hs, rfl⟩ := List.mem_map.mp (List.mem_toFinset.mp hg)
    refine SparseCore.Cfg.mem_ownCells.mpr ⟨rfl, ?_⟩
    show (SemLoc.dma s.sem : SemLoc sig).isScoped .scVector = true
    clear hg hn; revert s; decide
  refine ⟨bigSep (SparseCore.Cfg.ownCells (V d (cV L) (jV L))
    \ (semList.map fun s => ((V d (cV L) (jV L), SemLoc.dma s.sem) : GSem nD τ sig)).toFinset) fun g => semVal g 0, ?_⟩
  unfold SparseCore.Cfg.ownSems0
  rw [SparseCore.bigSep_sdiff_split' hs, bigSep_eq_bigSepL _ hn]
  rfl

/-- A buffer at some contents reads something. -/
theorem junk_eq (b : Ref sig .scVector) :
    (iprop(∃ f : Buf (Elt F) ((V d (cV L) (jV L)).loc b), (V d (cV L) (jV L)).loc b ↦{fullShare} f) : sProp 𝕄) = junk (F := F) d L (Memref.whole b) := by
  have h₁ : (iprop(∃ f : Buf (Elt F) ((V d (cV L) (jV L)).loc b), (V d (cV L) (jV L)).loc b ↦{fullShare} f) : sProp 𝕄) ⊢ junk (F := F) d L (Memref.whole b) := by
    iintro ⟨%f, H⟩
    iapply (junk_intro d L (Memref.whole b) ((Memref.whole b : Memref sig .scVector _ _ _).view.read (Elt F) f))
    iapply (own_intro d (cV L) (jV L) fullShare (Memref.whole b) f)
    rw [show (Memref.whole b : Memref sig .scVector _ _ _).view.set = Finset.univ from View.set_whole b]
    iexact H
  have h₂ : junk (F := F) d L (Memref.whole b) ⊢ (iprop(∃ f : Buf (Elt F) ((V d (cV L) (jV L)).loc b), (V d (cV L) (jV L)).loc b ↦{fullShare} f) : sProp 𝕄) := by
    unfold junk full own
    rw [Memref.view_whole, View.set_whole]
    iintro ⟨%X, %f, -, H⟩
    iexists f; iexact H
  exact Entails.antisymm h₁ h₂

omit [FloatOps F] in
theorem bufList_nodup : bufList.Nodup := by decide

theorem ownBufs_V :
    ∃ Rest : sProp 𝕄, (SparseCore.Cfg.ownBufs (V d (cV L) (jV L)) : sProp 𝕄) = iprop(scratch d L kargs ∗ Rest) := by
  have hn : (bufList.map fun b => (Proc.scVector (cV L) (jV L)).devRef b).Nodup :=
    List.Nodup.map (Proc.devRef_injective _) bufList_nodup
  have hs : (bufList.map fun b => (Proc.scVector (cV L) (jV L)).devRef b).toFinset ⊆ SparseCore.Cfg.ownRefs (τ := τ) (.scVector (cV L) (jV L)) := by
    intro g hg
    obtain ⟨b, hb, rfl⟩ := List.mem_map.mp (List.mem_toFinset.mp hg)
    refine SparseCore.Cfg.mem_ownRefs_of_owner ?_
    clear hg hn
    fin_cases hb <;> rfl
  refine ⟨bigSep (SparseCore.Cfg.ownRefs (τ := τ) (.scVector (cV L) (jV L)) \ (bufList.map fun b => (Proc.scVector (cV L) (jV L)).devRef b).toFinset)
    fun b => iprop(∃ f, ((d, b) : Loc nD τ sig) ↦{fullShare} f), ?_⟩
  unfold SparseCore.Cfg.ownBufs
  rw [SparseCore.bigSep_sdiff_split' hs, bigSep_eq_bigSepL _ hn]
  unfold scratch
  simp only [List.map_cons, List.map_nil, bigSepL]
  simp only [← junk_eq]
  rfl

/-! ## The tile's run -/

/-- The elements of a memref are it, reading what they hold. -/
theorem pts_own {sp : Space} {s : Shape} {e : EltTy} (q : PosShare TreeShare) (A : Memref sig .scVector sp s e) (f : Buf (Elt F) (A.view.loc (V d (cV L) (jV L))))
    {S : Finset (Idx (A.view.loc (V d (cV L) (jV L))))} (h : A.view.set = S) :
    (A.view.loc (V d (cV L) (jV L)) ↦[S]{q} f : sProp 𝕄) = own d (cV L) (jV L) q A (A.view.read (Elt F) f) := by
  subst h
  exact Entails.antisymm (own_intro d (cV L) (jV L) q A f) (own_elim d (cV L) (jV L) q A f)

variable (X : Buf (Elt F) (rgbLoc d)) (J : Buf (Elt F) (idxLoc d)) (Tb : Buf (Elt F) (tabLoc d)) (f : Buf (Elt F) (outLoc d))

theorem share_eq : share d L X J Tb f
    = iprop(own d (cV L) (jV L) (part L) kargs.a4 (kargs.a4.view.read (Elt F) Tb) ∗ full d L (idxSl L kargs) ((idxSl L kargs).view.read (Elt F) J)
        ∗ (bigSep Finset.univ fun r : Fin 8 => full d L (inSl L kargs r) ((inSl L kargs r).view.read (Elt F) X))
        ∗ (bigSep Finset.univ fun r : Fin 8 => full d L (outSl L kargs r) ((outSl L kargs r).view.read (Elt F) f))) := by
  unfold share
  refine congrArg₂ BI.sep (pts_own d L (part L) kargs.a4 Tb (View.set_whole _)) (congrArg₂ BI.sep (pts_own d L fullShare (idxSl L kargs) J (View.set_slice_whole _ _)) (congrArg₂ BI.sep ?_ ?_))
  · exact bigSep_congr fun r _ => pts_own d L fullShare (inSl L kargs r) X (View.set_slice_whole _ _)
  · exact bigSep_congr fun r _ => pts_own d L fullShare (outSl L kargs r) f (View.set_slice_whole _ _)

/-- What the tile makes of its chunks is the result there. -/
theorem made_eq (r : Fin 8) :
    made (fun r => (inSl L kargs r).view.read (Elt F) X) ((idxSl L kargs).view.read (Elt F) J) (kargs.a4.view.read (Elt F) Tb) r
      = (outSl L kargs r).view.read (Elt F) (colour X J Tb) := by
  funext x
  have e1 : (chunkRect L r).emb x 1 = x 1 := by
    apply Fin.ext
    rw [Rect.emb_apply]
    show k0_off4 L (BitVec.ofNat 32 (128 * r.val)) 1 + 1 * (x 1).val = (x 1).val
    rw [congrFun (k0_off4_eq L r) 1]
    simp
  have e2 : (idxRect L).emb (place r.val (x 0).val (place_lt r.isLt (x 0).isLt)) = rowOf ((chunkRect L r).emb x) := by
    funext a; obtain rfl : a = 0 := Subsingleton.elim _ _
    apply Fin.ext
    rw [Rect.emb_apply]
    show k0_off3 L 0 + 1 * (128 * r.val + (x 0).val) = k0_off4 L (BitVec.ofNat 32 (128 * r.val)) 0 + 1 * (x 0).val
    rw [congrFun (k0_off4_eq L r) 0, congrFun (k0_off3_eq L) 0]
    simp; omega
  show FloatOps.addf (FloatOps.mulf (X ((chunkRect L r).emb x)) (weight Tb (x 1) (cam (J ((idxRect L).emb (place r.val (x 0).val (place_lt r.isLt (x 0).isLt)))))))
      (bias Tb (x 1) (cam (J ((idxRect L).emb (place r.val (x 0).val (place_lt r.isLt (x 0).isLt))))))
    = FloatOps.addf (FloatOps.mulf (X ((chunkRect L r).emb x)) (weight Tb ((chunkRect L r).emb x 1) (cam (J (rowOf ((chunkRect L r).emb x))))))
      (bias Tb ((chunkRect L r).emb x 1) (cam (J (rowOf ((chunkRect L r).emb x)))))
  rw [e2, e1]

/-- The tile's run: its chunks of the result at `colour`. -/
theorem tile_body (hF : (K (F := F)).Facts) (hJ : ∀ x, (J x).toNat < 16) (O : CellTallies nD τ sig (HIx 1)) (W : Waits sig (HIx 1)) (hO : ∀ g, O g none = 0) :
    iprop(levAts (K (F := F)).L (K (F := F)).lev ∗ emp ∗ share d L X J Tb f
        ∗ scopedBufs (V d (cV L) (jV L)) ∗ scopedSems0 (V d (cV L) (jV L)) ∗ owes (V d (cV L) (jV L)) O W)
      ⊢ run d L (cc0__colorcal_sc L kargs.a2 kargs.h2 kargs.a3 kargs.h3 kargs.a4 kargs.h4 kargs.a5 kargs.h5 kargs.a6 kargs.h6 kargs.a7 kargs.h7 kargs.a8 kargs.h8 kargs.a9 kargs.h9 kargs.a10 kargs.h10 kargs.a11 kargs.h11 kargs.a12 kargs.h12 kargs.a13 kargs.h13 kargs.a14 kargs.h14 kargs.a15 kargs.h15 kargs.a16 kargs.h16 kargs.a17 kargs.h17 kargs.a18 kargs.h18 kargs.a19 kargs.h19 kargs.s20 kargs.s21 kargs.s22 kargs.s23 kargs.s24 kargs.s25 kargs.s26 kargs.s27)
          fun _ => iprop(share d L X J Tb (colour X J Tb) ∗ scopedBufs (V d (cV L) (jV L)) ∗ scopedSems0 (V d (cV L) (jV L))
            ∗ ∃ W', ⌜∀ p ∈ W', p ∈ W ∨ p.2 = none⌝ ∗ owes (V d (cV L) (jV L)) O W') := by
  obtain ⟨RB, hB⟩ := ownBufs_V (F := F) d L
  obtain ⟨RS, hS⟩ := ownSems0_V (F := F) d L
  have hR := congrArg (bigSep Finset.univ) (funext fun r : Fin 8 => congrArg (full d L (outSl L kargs r)) (made_eq d L X J Tb r))
  rw [(K (F := F)).scopedBufs_V hF d (cV L) (jV L), SparseCore.Cfg.scopedSems0_V (Val := Elt F) d (cV L) (jV L), hB, hS, share_eq, share_eq, ← hR]
  iintro ⟨#Hlv, -, ⟨HT, HJ, HX, HZ⟩, ⟨Hb, HRB⟩, ⟨Hs, HRS⟩, HO⟩
  iapply (wp_wand_r frame (wpE (defs₀ (F := F)) 𝒱₀ (V d (cV L) (jV L)) none))
  isplitr [HRB HRS]
  · iapply (tile_code d L kargs (O := O) (W := W) (fun r => (inSl L kargs r).view.read (Elt F) X) (fun r => (outSl L kargs r).view.read (Elt F) f)
      ((idxSl L kargs).view.read (Elt F) J) (kargs.a4.view.read (Elt F) Tb) (fun x => hJ ((idxRect L).emb x)) (part L))
    isplitl [HT]; · iexact HT
    isplitl [HJ]; · iexact HJ
    isplitl [HX]; · iexact HX
    isplitl [HZ]; · iexact HZ
    isplitl [Hb]; · iexact Hb
    isplitl [Hs]; · iexact Hs
    isplitl [HO]
    · unfold waits
      iexists W; isplitr
      · ipureintro; exact fun p hp => .inl hp
      · iexact HO
    · iapply ((K (F := F)).mayWaits_none hO); iexact Hlv
  iintro %_ ⟨HT, HJ, HX, HZ, Hb, Hs, HW⟩
  ihave HW := (Entails.of_eq (waits.eq_1 d (cV L) (jV L) O W)) $$ HW
  isplitl [HT HJ HX HZ]
  · isplitl [HT]; · iexact HT
    isplitl [HJ]; · iexact HJ
    isplitl [HX]; · iexact HX
    iexact HZ
  isplitl [Hb HRB]
  · isplitl [Hb]; · iexact Hb
    iexact HRB
  isplitl [Hs HRS]
  · isplitl [Hs]; · iexact Hs
    iexact HRS
  iexact HW

end Cert.Proof.Colour
-- ==== Proof.Launch.lean ====
/-
  The launch: how the arrays are dealt to the 32 tiles and come back, what the program does before its call, and its
  run, over any float values.
-/
module

public import proofs.«01_k».proof.Proof.Body

@[expose] public section

set_option maxRecDepth 16384

noncomputable section

namespace Cert.Proof.Colour

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

/-! ## The tiles' elements -/

/-- Tile `i` of SparseCore `c`. -/
def tileAt (c : Fin (grid0.bound 0)) (i : Fin (grid0.bound 1)) : grid0.Coords :=
  fun | 0 => c | 1 => i | ⟨_ + 2, h⟩ => absurd h (Nat.not_lt.2 (Nat.le_add_left _ _))

/-- A chunk of the launch: its tile and its number there. -/
abbrev Chunk : Type := (Fin 2 × Fin 16) × Fin 8

/-- The first row of a tile, and of a chunk. -/
def firstRow (t : Fin 2 × Fin 16) : ℕ := 2048 * t.2.val + 1024 * t.1.val

/-- The elements of a chunk, -/
def chunkSet (p : Chunk) : Finset S32768x3.Idx := (chunkRect (tileAt p.1.1 p.1.2) p.2).set
/-- and a tile's camera numbers. -/
def idxSet (t : Fin 2 × Fin 16) : Finset S32768.Idx := (idxRect (tileAt t.1 t.2)).set

theorem mem_chunkSet (p : Chunk) (j : S32768x3.Idx) :
    j ∈ chunkSet p ↔ firstRow p.1 + 128 * p.2.val ≤ (j 0).val ∧ (j 0).val < firstRow p.1 + 128 * p.2.val + 128 := by
  have h1 : (j 1).val < 3 := (j 1).isLt
  rw [chunkSet, Rect.mem_set_unit, k0_off4_eq]
  constructor
  · intro h; exact h 0
  · intro h a
    match a with
    | 0 => exact h
    | 1 => exact ⟨Nat.zero_le _, by show (j 1).val < 0 + 3; omega⟩

theorem mem_idxSet (t : Fin 2 × Fin 16) (j : S32768.Idx) :
    j ∈ idxSet t ↔ firstRow t ≤ (j 0).val ∧ (j 0).val < firstRow t + 1024 := by
  rw [idxSet, Rect.mem_set_unit, k0_off3_eq]
  constructor
  · intro h; exact h 0
  · intro h a
    match a with
    | 0 => exact h

/-- Different tiles' rows are different, -/
theorem tile_ext {t t' : Fin 2 × Fin 16} {n : ℕ} (h : firstRow t ≤ n ∧ n < firstRow t + 1024) (h' : firstRow t' ≤ n ∧ n < firstRow t' + 1024) : t = t' := by
  obtain ⟨⟨c, hc⟩, ⟨i, hi⟩⟩ := t; obtain ⟨⟨c', hc'⟩, ⟨i', hi'⟩⟩ := t'
  simp only [firstRow] at h h'
  exact Prod.ext (Fin.ext (show c = c' by omega)) (Fin.ext (show i = i' by omega))

/-- and every row is some tile's. -/
theorem tile_ex {n : ℕ} (h : n < 32768) : ∃ t : Fin 2 × Fin 16, firstRow t ≤ n ∧ n < firstRow t + 1024 :=
  ⟨(⟨n / 1024 % 2, by omega⟩, ⟨n / 2048, by omega⟩), by simp only [firstRow]; omega⟩

theorem idxSet_disjoint : ∀ t ∈ (Finset.univ : Finset (Fin 2 × Fin 16)), ∀ t' ∈ (Finset.univ : Finset (Fin 2 × Fin 16)), t ≠ t' → Disjoint (idxSet t) (idxSet t') :=
  fun t _ t' _ ne => Finset.disjoint_left.mpr fun j h h' => ne (tile_ext ((mem_idxSet t j).mp h) ((mem_idxSet t' j).mp h'))

theorem idxSet_cover : (Finset.univ : Finset (Fin 2 × Fin 16)).biUnion idxSet = Finset.univ := by
  ext j
  obtain ⟨t, ht⟩ := tile_ex (j 0).isLt
  simp only [Finset.mem_biUnion, Finset.mem_univ, true_and, iff_true]
  exact ⟨t, (mem_idxSet t j).mpr ht⟩

theorem chunkSet_disjoint : ∀ p ∈ (Finset.univ : Finset Chunk), ∀ p' ∈ (Finset.univ : Finset Chunk), p ≠ p' → Disjoint (chunkSet p) (chunkSet p') := by
  refine fun p _ p' _ ne => Finset.disjoint_left.mpr fun j h h' => ne ?_
  rw [mem_chunkSet] at h h'
  obtain ⟨t, ⟨r, hr⟩⟩ := p; obtain ⟨t', ⟨r', hr'⟩⟩ := p'
  dsimp only at h h'
  obtain rfl : t = t' := tile_ext (n := (j 0).val) (by omega) (by omega)
  exact Prod.ext rfl (Fin.ext (by show r = r'; omega))

theorem chunkSet_cover : (Finset.univ : Finset Chunk).biUnion chunkSet = Finset.univ := by
  ext j
  obtain ⟨t, ht⟩ := tile_ex (j 0).isLt
  simp only [Finset.mem_biUnion, Finset.mem_univ, true_and, iff_true]
  refine ⟨(t, ⟨((j 0).val - firstRow t) / 128, by omega⟩), (mem_chunkSet _ j).mpr ?_⟩
  show firstRow t + 128 * (((j 0).val - firstRow t) / 128) ≤ _ ∧ _ < firstRow t + 128 * (((j 0).val - firstRow t) / 128) + 128
  omega

/-! ## The deal -/

variable (d : Dev nD)

/-- The colours, or the result, are their chunks. -/
theorem deal_rgb (X : Buf (Elt F) (rgbLoc d)) :
    (rgbLoc d ↦{fullShare} X : sProp 𝕄) = bigSep Finset.univ fun c : Fin 2 => bigSep Finset.univ fun i : Fin 16 =>
      bigSep Finset.univ fun r : Fin 8 => rgbLoc d ↦[(chunkRect (tileAt c i) r).set]{fullShare} X := by
  rw [show (Finset.univ : Finset (Idx (rgbLoc d))) = Finset.univ.biUnion chunkSet from chunkSet_cover.symm,
    pointsTo_biUnion Finset.univ (ℓ := rgbLoc d) chunkSet chunkSet_disjoint, bigSep_univ_prod, bigSep_univ_prod]
  rfl
theorem deal_out (X : Buf (Elt F) (outLoc d)) :
    (outLoc d ↦{fullShare} X : sProp 𝕄) = bigSep Finset.univ fun c : Fin 2 => bigSep Finset.univ fun i : Fin 16 =>
      bigSep Finset.univ fun r : Fin 8 => outLoc d ↦[(chunkRect (tileAt c i) r).set]{fullShare} X := by
  rw [show (Finset.univ : Finset (Idx (outLoc d))) = Finset.univ.biUnion chunkSet from chunkSet_cover.symm,
    pointsTo_biUnion Finset.univ (ℓ := outLoc d) chunkSet chunkSet_disjoint, bigSep_univ_prod, bigSep_univ_prod]
  rfl
/-- The camera numbers are the tiles'. -/
theorem deal_idx (J : Buf (Elt F) (idxLoc d)) :
    (idxLoc d ↦{fullShare} J : sProp 𝕄) = bigSep Finset.univ fun c : Fin 2 => bigSep Finset.univ fun i : Fin 16 =>
      idxLoc d ↦[(idxRect (tileAt c i)).set]{fullShare} J := by
  rw [show (Finset.univ : Finset (Idx (idxLoc d))) = Finset.univ.biUnion idxSet from idxSet_cover.symm,
    pointsTo_biUnion Finset.univ (ℓ := idxLoc d) idxSet idxSet_disjoint, bigSep_univ_prod]
  rfl
/-- The table is read by all of them, each with a share. -/
theorem deal_tab (Tb : Buf (Elt F) (tabLoc d)) :
    (tabLoc d ↦{fullShare} Tb : sProp 𝕄) = bigSep Finset.univ fun c : Fin 2 => bigSep Finset.univ fun i : Fin 16 =>
      tabLoc d ↦{part (tileAt c i)} Tb := by
  rw [Transfers.pointsTo_deal (ℓ := tabLoc d) (S := Finset.univ) (f := Tb) (Finset.univ : Finset (Fin 2)) ⟨0, Finset.mem_univ _⟩ fullShare]
  refine bigSep_congr fun c _ => ?_
  rw [Transfers.pointsTo_deal (ℓ := tabLoc d) (S := Finset.univ) (f := Tb) (Finset.univ : Finset (Fin 16)) ⟨0, Finset.mem_univ _⟩]
  rfl

variable [FloatOps F]

/-- The four arrays of the call, whole. -/
def arrays (X : Buf (Elt F) (rgbLoc d)) (J : Buf (Elt F) (idxLoc d)) (Tb : Buf (Elt F) (tabLoc d)) (f : Buf (Elt F) (outLoc d)) : sProp 𝕄 :=
  iprop((tabLoc d ↦{fullShare} Tb) ∗ (idxLoc d ↦{fullShare} J) ∗ (rgbLoc d ↦{fullShare} X) ∗ (outLoc d ↦{fullShare} f))

/-- They are what the tiles hold of them. -/
theorem deal (X : Buf (Elt F) (rgbLoc d)) (J : Buf (Elt F) (idxLoc d)) (Tb : Buf (Elt F) (tabLoc d)) (f : Buf (Elt F) (outLoc d)) :
    arrays d X J Tb f = bigSep Finset.univ fun c : Fin 2 => bigSep Finset.univ fun i : Fin 16 => share d (tileAt c i) X J Tb f := by
  unfold arrays share
  simp only [bigSep_sep']
  rw [deal_tab, deal_idx, deal_rgb, deal_out]

/-! ## What the call's messages carry -/

variable (m : (ℓ : Loc nD τ sig) → Buf (Elt F) ℓ) (ρ : Dev nD → PrngReg)

abbrev scaleLoc : Loc nD τ sig := (SparseCore.T d).loc main_arg3
abbrev shiftLoc : Loc nD τ sig := (SparseCore.T d).loc main_arg4
abbrev raysLoc : Loc nD τ sig := (SparseCore.T d).loc main_arg2

/-- The table: the cameras' weights, then their biases. -/
def stack (A B : S16x3.Idx → Elt F .f32) : S32x3.Idx → Elt F .f32 :=
  concatenate S32x3 0 [⟨S16x3, A⟩, ⟨S16x3, B⟩] concatenates_S16x3_S16x3_S32x3_d0

/-- The table the call reads, -/
abbrev tab : Buf (Elt F) (tabLoc d) := stack (m (scaleLoc d)) (m (shiftLoc d))
/-- and the result it leaves. -/
abbrev res : Buf (Elt F) (outLoc d) := colour (m (rgbLoc d)) (m (idxLoc d)) (tab d m)

/-- Every camera number names a camera. -/
def PreOK : Prop := ∀ (d : Dev nD) (x : S32768.Idx), ((m (idxLoc d)) x : BitVec 32).toNat < 16

/-- What tile `i` of SparseCore `c` is handed and hands back, the result's chunks at `f`. -/
def handed (f : Buf (Elt F) (outLoc d)) (c : Fin 2) (i : Fin 16) : sProp 𝕄 := share d (tileAt c i) (m (rgbLoc d)) (m (idxLoc d)) (tab d m) f

instance handed_storable (f : Buf (Elt F) (outLoc d)) (c : Fin 2) (i : Fin 16) : BI.Storable (upEmb : UEmb _ 𝕄) (handed d m f c i) := by
  unfold handed; infer_instance

def P : (K (F := F)).Pay (nD := nD) (Val := Elt F) (Name := ℕ) (U := UU) where
  st := fun q d c => match q with | 0 => bigSep Finset.univ fun i : Fin 16 => handed d m (m (outLoc d)) c i
  dn := fun q d c => match q with | 0 => bigSep Finset.univ fun i : Fin 16 => handed d m (res d m) c i
  go := fun q d c i => match q with | 0 => handed d m (m (outLoc d)) c i
  td := fun q d c i => match q with | 0 => handed d m (res d m) c i
  x := fun _ _ => iprop(emp)

instance P_storable : (P (F := F) m).IsStorable where
  st q d c := by match q with | 0 => unfold P; infer_instance
  dn q d c := by match q with | 0 => unfold P; infer_instance
  go q d c i := by match q with | 0 => unfold P; infer_instance
  td q d c i := by match q with | 0 => unfold P; infer_instance

theorem st0_eq : (bigSep Finset.univ fun c : Fin ((K (F := F)).nCore 0) => (P m).st 0 d c) = arrays d (m (rgbLoc d)) (m (idxLoc d)) (tab d m) (m (outLoc d)) :=
  (deal d _ _ _ _).symm
theorem dn0_eq : (bigSep Finset.univ fun c : Fin ((K (F := F)).nCore 0) => (P m).dn 0 d c) = arrays d (m (rgbLoc d)) (m (idxLoc d)) (tab d m) (res d m) :=
  (deal d _ _ _ _).symm

/-! ## The launch theorem's obligations -/

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem defs₀_vector (c : Fin τ.nSC) (s : Fin τ.nSub) :
    defs₀ (F := F) (.scVector c s) 0 ()
      = SparseCore.onTile hcore0 hsub0 (fun c s => cc0__colorcal_sc (tileAt c s) kargs.a2 kargs.h2 kargs.a3 kargs.h3 kargs.a4 kargs.h4 kargs.a5 kargs.h5 kargs.a6 kargs.h6 kargs.a7 kargs.h7 kargs.a8 kargs.h8 kargs.a9 kargs.h9 kargs.a10 kargs.h10 kargs.a11 kargs.h11 kargs.a12 kargs.h12 kargs.a13 kargs.h13 kargs.a14 kargs.h14 kargs.a15 kargs.h15 kargs.a16 kargs.h16 kargs.a17 kargs.h17 kargs.a18 kargs.h18 kargs.a19 kargs.h19 kargs.s20 kargs.s21 kargs.s22 kargs.s23 kargs.s24 kargs.s25 kargs.s26 kargs.s27) ⟨⟩ c s := rfl

theorem tileObl (hpre : PreOK m) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body d (tileAt ⟨_, hc.1⟩ ⟨_, hc.2⟩) (m (rgbLoc d)) (m (idxLoc d)) (tab d m) (m (outLoc d)) facts (hpre d) O W hO).trans
    (wp_mono frame _ _ fun _ => obl_post)

theorem vecSplit : (K (F := F)).VecSplit' (P m) 0 := by
  intro d c
  show (bigSep Finset.univ fun i : Fin 16 => handed d m (m (outLoc d)) c i)
    ⊢ |={Set.univ}=> iprop((bigSep Finset.univ fun i : Fin 16 => handed d m (m (outLoc d)) c i)
      ∗ ((bigSep Finset.univ fun i : Fin 16 => handed d m (res d m) c i) -∗ bigSep Finset.univ fun i : Fin 16 => handed d m (res d m) c i))
  iintro H; imodintro
  isplitl [H]; · iexact H
  iintro H; iexact H

def u₀ : UU := (initOf (K (F := F)).hsCells (K (F := F)).hsToks, 1)

omit [FloatOps F] in
theorem none_held {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [none_held]; iempintro
  unfold P; dsimp only
  rw [show (bigSep Finset.univ fun _ : Thread nD τ => bigSep Finset.univ fun _ : Fin 1 => (iprop(emp) : sProp 𝕄)) = iprop(emp) from by
    rw [bigSep_congr fun _ _ => none_held _, none_held]]
  iempintro

/-! ## The program on the TensorCore -/

abbrev rgb' : DevRef τ sig := Proc.devRef .tc (main_arg0 : Ref sig .tc)
abbrev idx' : DevRef τ sig := Proc.devRef .tc (main_arg1 : Ref sig .tc)
abbrev rays' : DevRef τ sig := Proc.devRef .tc (main_arg2 : Ref sig .tc)
abbrev scale' : DevRef τ sig := Proc.devRef .tc (main_arg3 : Ref sig .tc)
abbrev shift' : DevRef τ sig := Proc.devRef .tc (main_arg4 : Ref sig .tc)
abbrev tab' : DevRef τ sig := Proc.devRef .tc (main_v0 : Ref sig .tc)
abbrev out' : DevRef τ sig := Proc.devRef .tc (main_v1 : Ref sig .tc)

/-- The program's arrays. -/
abbrev S7 : Finset (DevRef τ sig) := {rgb', idx', rays', scale', shift', tab', out'}

/-- The operation before the call: the table stacked. -/
abbrev opStack : HloOp τ sig (Elt F) :=
  StableHlo.binary main_arg3 main_arg4 main_v0 ((fun a b => concatenate S32x3 0 [⟨S16x3, a⟩, ⟨S16x3, b⟩] concatenates_S16x3_S16x3_S32x3_d0) : (⟨S16x3, .f32⟩ : BufTy).Contents (Elt F) → (⟨S16x3, .f32⟩ : BufTy).Contents (Elt F) → (⟨S32x3, .f32⟩ : BufTy).Contents (Elt F))

omit [FloatOps F] in
theorem held_S7 (W : Valuation τ sig (Elt F)) :
    (held (T d) S7 W : sProp 𝕄) = iprop((rgbLoc d ↦{fullShare} W rgb') ∗ (idxLoc d ↦{fullShare} W idx') ∗ (raysLoc d ↦{fullShare} W rays')
      ∗ (scaleLoc d ↦{fullShare} W scale') ∗ (shiftLoc d ↦{fullShare} W shift') ∗ (tabLoc d ↦{fullShare} W tab') ∗ (outLoc d ↦{fullShare} W out')) := by
  unfold held S7
  rw [SparseCore.bigSep_insert' (by decide), SparseCore.bigSep_insert' (by decide), SparseCore.bigSep_insert' (by decide), SparseCore.bigSep_insert' (by decide),
    SparseCore.bigSep_insert' (by decide), SparseCore.bigSep_insert' (by decide), bigSep_singleton]

omit [FloatOps F] in
theorem unscopedBufs_eq (W : (b : Ref sig .tc) → Buf (Elt F) ((d.tc : Thread nD τ).loc b)) :
    (unscopedBufs d W : sProp 𝕄) = iprop((rgbLoc d ↦{fullShare} W main_arg0) ∗ (idxLoc d ↦{fullShare} W main_arg1) ∗ (raysLoc d ↦{fullShare} W main_arg2)
      ∗ (scaleLoc d ↦{fullShare} W main_arg3) ∗ (shiftLoc d ↦{fullShare} W main_arg4) ∗ (tabLoc d ↦{fullShare} W main_v0) ∗ (outLoc d ↦{fullShare} W main_v1)) := by
  unfold unscopedBufs
  rw [show (Finset.univ.filter fun b : Ref sig .tc => ¬ b.isScoped) = {main_arg0, main_arg1, main_arg2, main_arg3, main_arg4, main_v0, main_v1} by decide,
    SparseCore.bigSep_insert' (by decide), SparseCore.bigSep_insert' (by decide), SparseCore.bigSep_insert' (by decide), SparseCore.bigSep_insert' (by decide),
    SparseCore.bigSep_insert' (by decide), SparseCore.bigSep_insert' (by decide), bigSep_singleton]

/-- The arrays as the launch finds them. -/
def V0 : Valuation τ sig (Elt F) := fun b => m (d, b)

omit [FloatOps F] in
theorem unscoped_held : (unscopedBufs d (fun b => m ((SparseCore.T d).loc b)) : sProp 𝕄) = held (T d) S7 (V0 d m) := by
  rw [unscopedBufs_eq, held_S7]; rfl

omit [FloatOps F] in
theorem hStack : (opStack (F := F)).bufs ⊆ S7 := show ({scale', shift', tab'} : Finset (DevRef τ sig)) ⊆ S7 by decide

omit [FloatOps F] in
/-- After it the table is stacked and the rest is as it was. -/
theorem held_stacked : (held (T d) S7 ((opStack (F := F)).result (V0 d m)) : sProp 𝕄)
    = iprop((rgbLoc d ↦{fullShare} m (rgbLoc d)) ∗ (idxLoc d ↦{fullShare} m (idxLoc d)) ∗ (raysLoc d ↦{fullShare} m (raysLoc d))
      ∗ (scaleLoc d ↦{fullShare} m (scaleLoc d)) ∗ (shiftLoc d ↦{fullShare} m (shiftLoc d)) ∗ (tabLoc d ↦{fullShare} tab d m) ∗ (outLoc d ↦{fullShare} m (outLoc d))) := by
  have ne : ∀ b : DevRef τ sig, b ≠ tab' → (opStack (F := F)).result (V0 d m) b = m (d, b) := fun b hb =>
    (opStack (F := F)).result_of_not_mem (V0 d m) (b := b) (show b ∉ ({tab'} : Finset (DevRef τ sig)) by simpa using hb)
  rw [held_S7, ne rgb' (by decide), ne idx' (by decide), ne rays' (by decide), ne scale' (by decide), ne shift' (by decide), ne out' (by decide),
    show (opStack (F := F)).result (V0 d m) tab' = tab d m from StableHlo.binary_result main_arg3 main_arg4 main_v0 _ _ _ _ (V0 d m)]

/-- What the program leaves: its arguments, and the result. -/
abbrev FIN : sProp 𝕄 :=
  iprop((rgbLoc d ↦{fullShare} m (rgbLoc d)) ∗ (idxLoc d ↦{fullShare} m (idxLoc d)) ∗ (raysLoc d ↦{fullShare} m (raysLoc d))
      ∗ (scaleLoc d ↦{fullShare} m (scaleLoc d)) ∗ (shiftLoc d ↦{fullShare} m (shiftLoc d)) ∗ (outLoc d ↦{fullShare} res d m))

/-- The program on a device's TensorCore: the table stacked, then the call. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN d m ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := opStack) (S := S7) hStack (V := V0 d m)) $$ [Hb Hheld]
  · isplitl [Hb] <;> iassumption
  iintro ⟨Hb, Hheld⟩
  ihave Hh := (Entails.of_eq (held_stacked (F := F) d m)) $$ Hheld
  icases Hh with ⟨Hx, Hj, Hrays, Hsc, Hsh, Ht, Hz⟩
  rw [wp_ret]; imodintro
  iapply ((K (F := F)).wp_run (D (F := F)) 𝒱 (EH := EH) (P := P m) κ d 0) $$ [Hst Hx Hj Hrays Hsc Hsh Ht Hz Hb Hts]
  isplitr; · iexact Hctx
  isplitl [Hst]; · iexact Hst
  isplitl [Hx Hj Ht Hz]
  · rw [st0_eq]; unfold arrays
    isplitl [Ht]; · iexact Ht
    isplitl [Hj]; · iexact Hj
    isplitl [Hx]; · iexact Hx
    iexact Hz
  iintro ⟨Hst, Hdn⟩
  ihave Hdn' := (Entails.of_eq ((dn0_eq d m).trans (arrays.eq_1 d _ _ _ _))) $$ Hdn
  icases Hdn' with ⟨-, Hj, Hx, Hz⟩
  imodintro
  isplitl [Hst]; · iexact Hst
  isplitr [Hb Hts]
  · isplitl [Hx]; · iexact Hx
    isplitl [Hj]; · iexact Hj
    isplitl [Hrays]; · iexact Hrays
    isplitl [Hsc]; · iexact Hsc
    isplitl [Hsh]; · iexact Hsh
    iexact Hz
  isplitl [Hb] <;> iassumption

/-- What the final memory holds. -/
def fq (s' : Phys nD τ sig (Elt F)) : Prop :=
  s'.mem.mem (rgbLoc d) = m (rgbLoc d) ∧ s'.mem.mem (idxLoc d) = m (idxLoc d) ∧ s'.mem.mem (raysLoc d) = m (raysLoc d)
    ∧ s'.mem.mem (scaleLoc d) = m (scaleLoc d) ∧ s'.mem.mem (shiftLoc d) = m (shiftLoc d) ∧ s'.mem.mem (outLoc d) = res d m

omit [FloatOps F] in
/-- An array held whole is in the memory. -/
theorem in_memory (s' : Phys nD τ sig (Elt F)) (ℓ : Loc nD τ sig) (f : Buf (Elt F) ℓ) :
    iprop(SI s' ∗ (ℓ ↦{fullShare} f)) ⊢ iprop(⌜s'.mem.mem ℓ = f⌝ ∗ (SI s' : sProp 𝕄)) := by
  iintro ⟨HSI, H⟩
  ihave H := (persistent_entails_right (SI_pointsTo_agree (st := s') (ℓ := ℓ) (I := Finset.univ) (q := fullShare) (f := f))) $$ [HSI H]
  · isplitl [HSI] <;> iassumption
  icases H with ⟨%h, HSI, -⟩
  isplitr
  · ipureintro; exact funext fun i => h i (Finset.mem_univ i)
  · iexact HSI

theorem hfin (d : Dev nD) (s' : Phys nD τ sig (Elt F)) : iprop(FIN d m ∗ SI s') ⊢ (⌜fq d m s'⌝ : sProp 𝕄) := by
  iintro ⟨⟨Hx, Hj, Hrays, Hsc, Hsh, Hz⟩, HSI⟩
  ihave H := (in_memory s' (rgbLoc d) (m (rgbLoc d))) $$ [HSI Hx]
  · isplitl [HSI] <;> iassumption
  icases H with ⟨%h1, HSI⟩
  ihave H := (in_memory s' (idxLoc d) (m (idxLoc d))) $$ [HSI Hj]
  · isplitl [HSI] <;> iassumption
  icases H with ⟨%h2, HSI⟩
  ihave H := (in_memory s' (raysLoc d) (m (raysLoc d))) $$ [HSI Hrays]
  · isplitl [HSI] <;> iassumption
  icases H with ⟨%h3, HSI⟩
  ihave H := (in_memory s' (scaleLoc d) (m (scaleLoc d))) $$ [HSI Hsc]
  · isplitl [HSI] <;> iassumption
  icases H with ⟨%h4, HSI⟩
  ihave H := (in_memory s' (shiftLoc d) (m (shiftLoc d))) $$ [HSI Hsh]
  · isplitl [HSI] <;> iassumption
  icases H with ⟨%h5, HSI⟩
  ihave H := (in_memory s' (outLoc d) (res d m)) $$ [HSI Hz]
  · isplitl [HSI] <;> iassumption
  icases H with ⟨%h6, -⟩
  ipureintro; exact ⟨h1, h2, h3, h4, h5, h6⟩

/-! ## The run -/

def QC : PUnit × MemSt nD τ sig (Elt F) → Prop := fun r =>
  (∀ d : Dev nD, r.2.mem (rgbLoc d) = m (rgbLoc d) ∧ r.2.mem (idxLoc d) = m (idxLoc d) ∧ r.2.mem (raysLoc d) = m (raysLoc d)
    ∧ r.2.mem (scaleLoc d) = m (scaleLoc d) ∧ r.2.mem (shiftLoc d) = m (shiftLoc d) ∧ r.2.mem (outLoc d) = res d m) ∧ r.2.sem = fun _ => 0

/-- The program's run: it ends, its arguments as they were, its result `colour` of them, every counter at zero. -/
theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m hpre)
    (fun q _ => match q with | 0 => SparseCore.Cfg.VecSplit.of_plain (vecSplit m))
    m ρ main (fun _ => iprop(emp)) (fun d => FIN d m) (u₀ (F := F)) (sep_elim_left.trans (hu₀ m)) (hmain m ρ) (fun d => fq d m) (hfin m) (QC m) (fun _ h hz => ⟨h, hz⟩)

/-! ## The precondition -/

/-- A word that is no less than 0 and less than 16, as signed words, is less than 16. -/
theorem word_lt (v : BitVec 32) (e : IntOp.andi (IntOp.cmpi .sge v 0#32) (IntOp.cmpi .slt v 16#32) = 1#1) : v.toNat < 16 := by
  have both : ∀ p q : Bool, IntOp.andi (BitVec.ofBool p) (BitVec.ofBool q) = BitVec.ofBool (p && q) := by decide
  have one : ∀ p : Bool, BitVec.ofBool p = 1#1 ↔ p = true := by decide
  simp only [IntOp.cmpi, both, one, Bool.and_eq_true, BitVec.sle_eq_decide, BitVec.slt_eq_decide,
    decide_eq_true_eq, BitVec.toInt_eq_toNat_cond, BitVec.toNat_ofNat, Nat.reducePow, Nat.reduceMod] at e
  omega

end Cert.Proof.Colour
-- ==== Proof.Reference.lean ====
/-
  What the reference computes under the precondition. Each ray has one sample, so the reference's repetition of the
  per-ray weights and biases reads row `r` for sample `r`; each camera number is a row of the tables, so no look-up is
  out of range. What is left is `colour`, up to the order of one sum.
-/
module

public import proofs.«01_k».proof.Proof.Launch
public import proofs.«01_k».proof.Proof.Gen.ReferenceIdeal.Run
public import Idealize.ShloMosaic.Lib.Routing.OpsOne
public import Idealize.ShloMosaic.Lib.ReduceAll

@[expose] public section

set_option maxRecDepth 16384

noncomputable section

namespace Cert.Proof.Colour

open Idealize.ShloMosaic Idealize.ShloMosaic.Routing Idealize.ShloMosaic.ValueIdx

section Terms

open Cert.ReferenceIdeal Cert.ReferenceIdeal.Gen

variable {F : FTy → Type} [FloatOps F]

/-! ## The reference's parts -/

/-- One word at every row, -/
def spread (b : BitVec 32) : IVec S32768 32 := broadcastInDim S32768 ![] bcast_S_S32768 (constantI S_ 32 b)
/-- and one float at every element. -/
def splat (b : BitVec 32) : FVec F S32768x3 .f32 := broadcastInDim S32768x3 ![] bcast_S_S32768x3 (constant S_ .f32 b)
/-- A vector as a column. -/
def column (v : IVec S32768 32) : IVec S32768x1 32 := broadcastInDim S32768x1 ![0] bcast_S32768_S32768x1_0 v

/-- Row numbers of an array of `n` rows, a negative one counting from the end. -/
def wrap (n : BitVec 32) (v : IVec S32768 32) : IVec S32768 32 := select (cmpi .slt v (spread 0#32)) (addi v (spread n)) v

/-- Whether each row number is among `0 … last`. -/
def inside (last : BitVec 32) (i : IVec S32768x1 32) : IVec S32768x3 1 :=
  broadcastInDim S32768x3 ![0] bcast_S32768_S32768x3_0
    (Host.reduce IntOp.andi
      (andi (cmpi .sge i (broadcastInDim S32768x1 ![] bcast_S_S32768x1 (constantI S_ 32 0#32)))
        (cmpi .sle i (broadcastInDim S32768x1 ![0, 1] bcast_S1x1_S32768x1_0_1
          (broadcastInDim S1x1 ![1] bcast_S1_S1x1_1 (constantI S1 32 last)))))
      (constantI S_ 1 1#1) reducesTo_S32768x1_S32768_d1 h_S_)

/-- The rows of `x` that `v` numbers, not a number where there is no such row. -/
def rowsOf {G : Shape} (d : GatherDims G S32768x1 S32768x3) (last n : BitVec 32) (x : FVec F G .f32) (v : IVec S32768 32) : FVec F S32768x3 .f32 :=
  select (inside last (column (wrap n v))) (Host.gather d x (column (wrap n v))) (splat 0x7FC00000#32)

/-- Which rows name camera 0. -/
def fixed (J : IVec S32768 32) : IVec S32768x3 1 :=
  broadcastInDim S32768x3 ![0, 1] bcast_S32768x1_S32768x3_0_1 (broadcastInDim S32768x1 ![0] bcast_S32768_S32768x1_0 (cmpi .eq J (spread 0#32)))

/-- How many samples each ray has. -/
def counts (R : IVec S32768x2 32) : IVec S32768 32 :=
  subi (shapeCast S32768 (extractStridedSlice S32768x1 ![0, 1] R slices_S32768x2_S32768x1_0_1) shapeCasts_S32768x1_S32768)
    (shapeCast S32768 (extractStridedSlice S32768x1 ![0, 0] R slices_S32768x2_S32768x1_0_0) shapeCasts_S32768x1_S32768)

/-- Running sums. -/
def sums (v : IVec S32768 32) : IVec S32768 32 :=
  Host.reduceWindow IntOp.addi ![32768] ![1] ![32767] ![0] v (broadcastInDim S_ ![] bcast_S_S_ (constantI S_ 32 0#32))
    reduceWindows_S32768_S32768_w32768s1p32767_0 h_S_

/-- Counts moved one place on, a zero in the first place. -/
def moved (v : IVec S32768 32) : IVec S32768 32 :=
  Host.scatter scatter_S32768_S1_S__n_0_0_0 (fun _ b => b)
    (concatenate S32768 0 [⟨S1, extractStridedSlice S1 ![32767] v slices_S32768_S1_32767⟩,
      ⟨S32767, extractStridedSlice S32767 ![0] v slices_S32768_S32767_0⟩] concatenates_S1_S32767_S32768_d0)
    (broadcastInDim S1 ![] bcast_S_S1 (constantI S_ 32 0#32)) (constantI S_ 32 0#32)

/-- How often each place occurs in `v`. -/
def tally (v : IVec S32768 32) : IVec S32768 32 :=
  Host.scatter scatter_S32768_S32768x1_S32768_n_0_0_1 IntOp.addi (spread 0#32) (column v) (spread 1#32)

/-- The ray of each sample, of the rays' counts. -/
def rayOf (v : IVec S32768 32) : IVec S32768 32 := subi (sums (tally (wrap 32768#32 (sums (moved v))))) (spread 1#32)

/-- The look-up in a table, one row per ray. -/
abbrev perRay (x : FVec F S16x3 .f32) (J : IVec S32768 32) : FVec F S32768x3 .f32 :=
  rowsOf gather_S16x3_S32768x1_S32768x3_1_0_n_n_0_1_13 15#32 16#32 x J
/-- The repetition of rays' rows, one row per sample. -/
abbrev perSample (x : FVec F S32768x3 .f32) (R : IVec S32768x2 32) : FVec F S32768x3 .f32 :=
  rowsOf gather_S32768x3_S32768x1_S32768x3_1_0_n_n_0_1_13 32767#32 32768#32 x (rayOf (counts R))

/-- The reference's result. -/
def refOut (X : FVec F S32768x3 .f32) (J : IVec S32768 32) (R : IVec S32768x2 32) (A B : FVec F S16x3 .f32) : FVec F S32768x3 .f32 :=
  addf (mulf X (perSample (select (fixed J) (splat 0x3F800000#32) (addf (splat 0x3F800000#32) (perRay A J))) R))
    (perSample (select (fixed J) (splat 0x00000000#32) (perRay B J)) R)

/-! ## Words -/

theorem not_negative (v : BitVec 32) (h : v.toNat < 2 ^ 31) : IntOp.cmpi .slt v 0#32 = 0#1 := by
  have zero : ∀ p : Bool, BitVec.ofBool p = 0#1 ↔ p = false := by decide
  simp only [IntOp.cmpi, zero, BitVec.slt_eq_decide, decide_eq_false_iff_not, BitVec.toInt_eq_toNat_cond, BitVec.toNat_ofNat,
    Nat.reducePow, Nat.reduceMod]
  omega

theorem among (v last : BitVec 32) (hl : last.toNat < 2 ^ 31) (h : v.toNat ≤ last.toNat) :
    IntOp.andi (IntOp.cmpi .sge v 0#32) (IntOp.cmpi .sle v last) = 1#1 := by
  have both : ∀ p q : Bool, IntOp.andi (BitVec.ofBool p) (BitVec.ofBool q) = BitVec.ofBool (p && q) := by decide
  have one : ∀ p : Bool, BitVec.ofBool p = 1#1 ↔ p = true := by decide
  simp only [IntOp.cmpi, both, one, Bool.and_eq_true, BitVec.sle_eq_decide, decide_eq_true_eq, BitVec.toInt_eq_toNat_cond,
    BitVec.toNat_ofNat, Nat.reducePow, Nat.reduceMod]
  omega

/-! ## Look-ups in range -/

theorem wrap_eq (n : BitVec 32) (v : IVec S32768 32) (h : ∀ x, (v x).toNat < 2 ^ 31) : wrap n v = v := by
  funext x
  show Scalar.select (IntOp.cmpi .slt (v x) 0#32) _ (v x) = v x
  rw [not_negative _ (h x)]
  rfl

theorem column_apply (v : IVec S32768 32) (c : Fin 32768) : column v (ix2 c (0 : Fin 1)) = v (ix1 c) := bcCol bcast_S32768_S32768x1_0 v c

theorem inside_one (last : BitVec 32) (hl : last.toNat < 2 ^ 31) (v : IVec S32768 32) (h : ∀ x, (v x).toNat ≤ last.toNat) :
    inside last (column v) = fun _ => 1#1 := by
  funext j
  refine Host.reduce_andi_one _ _ _ _ _ rfl fun i => ?_
  exact among (column v i) last hl (h _)

/-- A look-up all of whose numbers are rows of the array reads those rows. -/
theorem rowsOf_apply {nb : ℕ} (d : GatherDims (shape2 nb 3) S32768x1 S32768x3) (hoff : d.offsetDims = [1]) (hcoll : d.collapsedSliceDims = [0])
    (hob : d.operandBatchingDims = []) (hsim : d.startIndexMap = [0]) (hivd : d.indexVectorDim = 1) (last n : BitVec 32) (hnb : nb < 2 ^ 31)
    (hlast : last.toNat + 1 = nb) (x : FVec F (shape2 nb 3) .f32) (v : IVec S32768 32) (hv : ∀ e, (v e).toNat < nb) (c : Fin 32768) (y : Fin 3) :
    rowsOf d last n x v (ix2 c y) = x (ix2 ⟨(v (ix1 c)).toNat, hv _⟩ y) := by
  have hw : wrap n v = v := wrap_eq n v fun e => (hv e).trans hnb
  unfold rowsOf
  rw [hw, inside_one last (by omega) v fun e => by have := hv e; omega]
  show Host.gather d x (column v) (ix2 c y) = _
  refine gather_row d hoff hcoll hob hsim hivd x (column v) c y ⟨(v (ix1 c)).toNat, hv _⟩ ?_ hnb
  rw [column_apply]
  exact (BitVec.ofNat_toNat 32 (v (ix1 c))).symm ▸ (BitVec.setWidth_eq _).symm

/-! ## One sample per ray -/

theorem moved_one (e : Fin 32768) : moved (fun _ => 1#32) (ix1 e) = BitVec.ofNat 32 (if e.val = 0 then 0 else 1) := by
  unfold moved
  refine (scatter_one scatter_S32768_S1_S__n_0_0_0 rfl rfl _ _ _ (0 : Fin 32768) (by decide) rfl e).trans ?_
  by_cases h : e = 0
  · rw [if_pos h, if_pos (show e.val = 0 from congrArg Fin.val h)]; rfl
  · have h0 : e.val ≠ 0 := fun q => h (Fin.ext q)
    have he : e.val - 1 < 32767 := by have := e.isLt; omega
    rw [if_neg h, if_neg h0]
    refine concatenate_pair_apply_right (s₁ := S1) (s₂ := S32767) (0 : Fin S32768.rank) _ _ concatenates_S1_S32767_S32768_d0 (ix1 e) rfl rfl
      (ix1 (⟨e.val - 1, he⟩ : Fin 32767)) (fun b hb => absurd (Subsingleton.elim (α := Fin 1) b 0) hb) ?_
    show e.val - 1 + 1 = e.val
    omega

theorem sum_after_first (j : ℕ) : ((List.range (j + 1)).map fun i => if i = 0 then 0 else 1).sum = j := by
  induction j with
  | zero => rfl
  | succ j ih => rw [List.range_succ, List.map_append, List.sum_append, ih]; simp

theorem sum_ones (j : ℕ) : ((List.range j).map fun _ => 1).sum = j := by simp

theorem sums_apply (v : IVec S32768 32) (f : ℕ → ℕ) (hv : ∀ i : Fin 32768, v (ix1 i) = BitVec.ofNat 32 (f i.val)) (j : Fin 32768) :
    sums v (ix1 j) = BitVec.ofNat 32 ((List.range (j.val + 1)).map f).sum :=
  cumsum1 (N := 32768) (Nm1 := 32767) rfl v f hv _ rfl reduceWindows_S32768_S32768_w32768s1p32767_0 h_S_ j

theorem tally_apply (v : IVec S32768 32) (hv : ∀ i : Fin 32768, v (ix1 i) = BitVec.ofNat 32 i.val) (j : Fin 32768) : tally v (ix1 j) = BitVec.ofNat 32 1 := by
  refine (scatter_hist (N := 32768) scatter_S32768_S32768x1_S32768_n_0_0_1 rfl rfl rfl (spread 0#32) (fun _ => rfl) (column v) (spread 1#32) (fun _ => rfl)
    (fun i => i) (fun i => (column_apply v i).trans (hv i)) (fun i => i.isLt.trans (by decide)) j).trans ?_
  rw [Nat.count_eq_card_filter_range, Finset.filter_eq', if_pos (Finset.mem_range.2 j.isLt), Finset.card_singleton]

theorem at_row (v : IVec S32768 32) (f : ℕ → ℕ) (h : ∀ i : Fin 32768, v (ix1 i) = BitVec.ofNat 32 (f i.val)) (x : S32768.Idx) :
    v x = BitVec.ofNat 32 (f (x 0).val) := by
  have e : x = ix1 (n := 32768) (x 0) := eq_ix1 x
  rw [e]
  exact h (x 0)

/-- The ray of sample `j` is ray `j`. -/
theorem rayOf_one (j : Fin 32768) : rayOf (fun _ => 1#32) (ix1 j) = BitVec.ofNat 32 j.val := by
  have h1 : ∀ i : Fin 32768, sums (moved fun _ => 1#32) (ix1 i) = BitVec.ofNat 32 i.val := fun i => by
    rw [sums_apply _ (fun i => if i = 0 then 0 else 1) moved_one, sum_after_first]
  have h2 : wrap 32768#32 (sums (moved fun _ => 1#32)) = sums (moved fun _ => 1#32) := wrap_eq _ _ fun x => by
    have hx : (x 0).val < 32768 := (x 0).isLt
    rw [at_row _ (fun i => i) h1, BitVec.toNat_ofNat]
    omega
  unfold rayOf
  rw [h2]
  show IntOp.subi (sums (tally (sums (moved fun _ => 1#32))) (ix1 j)) 1#32 = _
  rw [sums_apply _ (fun _ => 1) (tally_apply _ h1), sum_ones]
  have hj := j.isLt
  apply BitVec.eq_of_toNat_eq
  show (BitVec.ofNat 32 (j.val + 1) - 1#32).toNat = _
  rw [BitVec.toNat_sub, BitVec.toNat_ofNat, BitVec.toNat_ofNat, BitVec.toNat_ofNat]
  omega

theorem perSample_apply (x : FVec F S32768x3 .f32) (R : IVec S32768x2 32) (hR : counts R = fun _ => 1#32) (c : Fin 32768) (y : Fin 3) :
    perSample x R (ix2 c y) = x (ix2 c y) := by
  have hv : ∀ i : Fin 32768, (rayOf (fun _ => 1#32) (ix1 i)).toNat = i.val := fun i => by
    have := i.isLt
    rw [rayOf_one, BitVec.toNat_ofNat]
    omega
  have hv' : ∀ e : S32768.Idx, (rayOf (fun _ => 1#32) e).toNat < 32768 := fun e =>
    (congrArg (fun z => (rayOf (fun _ => 1#32) z).toNat) (show e = ix1 (n := 32768) (e 0) from eq_ix1 e)).trans (hv (e 0)) ▸ (e 0).isLt
  unfold perSample
  rw [hR]
  refine (rowsOf_apply (nb := 32768) gather_S32768x3_S32768x1_S32768x3_1_0_n_n_0_1_13 rfl rfl rfl rfl rfl 32767#32 32768#32 (by decide) rfl x _ hv' c y).trans ?_
  exact congrArg (fun b => x (ix2 b y)) (Fin.ext (hv c))

theorem perRay_apply (x : FVec F S16x3 .f32) (J : IVec S32768 32) (hJ : ∀ e, (J e).toNat < 16) (c : Fin 32768) (y : Fin 3) :
    perRay x J (ix2 c y) = x (ix2 ⟨(J (ix1 c)).toNat, hJ _⟩ y) :=
  rowsOf_apply (nb := 16) gather_S16x3_S32768x1_S32768x3_1_0_n_n_0_1_13 rfl rfl rfl rfl rfl 15#32 16#32 (by decide) rfl x J hJ c y

theorem fixed_apply (J : IVec S32768 32) (c : Fin 32768) (y : Fin 3) : fixed J (ix2 c y) = IntOp.cmpi .eq (J (ix1 c)) 0#32 :=
  bcRows bcast_S32768_S32768x1_0 bcast_S32768x1_S32768x3_0_1 (cmpi .eq J (spread 0#32)) c y

/-- The reference's result, element by element. -/
theorem refOut_apply (X : FVec F S32768x3 .f32) (J : IVec S32768 32) (R : IVec S32768x2 32) (A B : FVec F S16x3 .f32)
    (hJ : ∀ e, (J e).toNat < 16) (hR : counts R = fun _ => 1#32) (c : Fin 32768) (y : Fin 3) :
    refOut X J R A B (ix2 c y)
      = FloatOps.addf (FloatOps.mulf (X (ix2 c y))
          (Scalar.select (IntOp.cmpi .eq (J (ix1 c)) 0#32) (FloatOps.ofBits .f32 0x3F800000#32)
            (FloatOps.addf (FloatOps.ofBits .f32 0x3F800000#32) (A (ix2 ⟨(J (ix1 c)).toNat, hJ _⟩ y)))))
        (Scalar.select (IntOp.cmpi .eq (J (ix1 c)) 0#32) (FloatOps.ofBits .f32 0x00000000#32) (B (ix2 ⟨(J (ix1 c)).toNat, hJ _⟩ y))) := by
  show FloatOps.addf (FloatOps.mulf (X (ix2 c y)) (perSample _ R (ix2 c y))) (perSample _ R (ix2 c y)) = _
  rw [perSample_apply _ R hR, perSample_apply _ R hR]
  show FloatOps.addf (FloatOps.mulf (X (ix2 c y)) (Scalar.select (fixed J (ix2 c y)) _ (FloatOps.addf _ (perRay A J (ix2 c y)))))
    (Scalar.select (fixed J (ix2 c y)) _ (perRay B J (ix2 c y))) = _
  rw [fixed_apply, perRay_apply A J hJ, perRay_apply B J hJ]
  rfl

/-- The generated term of the reference's result is `refOut`. -/
theorem res_eq (m : (ℓ : Loc nD τ sig) → Buf (Elt F) ℓ) (c : Dev nD) :
    Cert.ReferenceIdeal.Value.res_out0 m c
      = refOut (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) := rfl

end Terms

/-! ## The kernel's side -/

section Kernel

open Cert.KernelIdeal Cert.KernelIdeal.Gen

variable {F : FTy → Type} [FloatOps F]

theorem cam_val (w : BitVec 32) (h : w.toNat < 16) : ((cam w) 0).val = w.toNat := by
  unfold cam
  rw [dif_pos h]
  rfl

/-- Camera `w` is the fixed one when `w` is zero. -/
theorem pay5_cam (w : BitVec 32) (h : w.toNat < 16) : k0_pay5 (cam w) = IntOp.cmpi .eq w 0#32 := by
  have e : lanes (cam w) = w := BitVec.eq_of_toNat_eq ((lanes_val _).trans (cam_val w h))
  show IntOp.cmpi .eq (lanes (cam w)) 0#32 = _
  rw [e]

/-- The first sixteen rows of the stacked tables are the weights', -/
theorem stack_low (A B : S16x3.Idx → Elt F .f32) (r : ℕ) (h : r < 16) (hr : r < 32) (n : Fin 3) :
    stack A B (cell r hr n) = A (ix2 (⟨r, h⟩ : Fin 16) n) :=
  concatenate_pair_apply_left (s₁ := S16x3) (s₂ := S16x3) (0 : Fin S32x3.rank) A B concatenates_S16x3_S16x3_S32x3_d0 (cell r hr n) rfl
    (ix2 (⟨r, h⟩ : Fin 16) n) fun b => match b with
      | 0 => rfl
      | 1 => rfl

/-- and the others the biases'. -/
theorem stack_high (A B : S16x3.Idx → Elt F .f32) (r : ℕ) (h : r < 16) (hr : 16 + r < 32) (n : Fin 3) :
    stack A B (cell (16 + r) hr n) = B (ix2 (⟨r, h⟩ : Fin 16) n) :=
  concatenate_pair_apply_right (s₁ := S16x3) (s₂ := S16x3) (0 : Fin S32x3.rank) A B concatenates_S16x3_S16x3_S32x3_d0 (cell (16 + r) hr n) rfl rfl
    (ix2 (⟨r, h⟩ : Fin 16) n) (fun b hb => match b with
      | 0 => absurd rfl hb
      | 1 => rfl) (Nat.add_comm r 16)

theorem cell_congr {r s : ℕ} (e : r = s) (hr : r < 32) (hs : s < 32) (n : Fin 3) : cell r hr n = cell s hs n := by subst e; rfl

/-- The kernel's result, element by element. -/
theorem colour_apply (X : S32768x3.Idx → Elt F .f32) (J : IVec S32768 32) (A B : S16x3.Idx → Elt F .f32) (hJ : ∀ e, (J e).toNat < 16)
    (c : Fin 32768) (y : Fin 3) :
    colour X J (stack A B) (ix2 c y)
      = FloatOps.addf (FloatOps.mulf (X (ix2 c y))
          (Scalar.select (IntOp.cmpi .eq (J (ix1 c)) 0#32) (FloatOps.ofBits .f32 0x3F800000#32)
            (FloatOps.addf (A (ix2 ⟨(J (ix1 c)).toNat, hJ _⟩ y)) (FloatOps.ofBits .f32 0x3F800000#32))))
        (Scalar.select (IntOp.cmpi .eq (J (ix1 c)) 0#32) (FloatOps.ofBits .f32 0x00000000#32) (B (ix2 ⟨(J (ix1 c)).toNat, hJ _⟩ y))) := by
  have hrow : rowOf (ix2 c y) = ix1 (n := 32768) c := eq_ix1 _
  have hw := hJ (ix1 c)
  have hv := cam_val (J (ix1 c)) hw
  unfold colour
  rw [hrow]
  unfold weight bias
  rw [pay5_cam _ hw, cell_congr hv _ (by omega), cell_congr (congrArg (16 + ·) hv) _ (by omega),
    stack_low A B _ hw, stack_high A B _ hw]

end Kernel

/-! ## The two are equal over the extended reals -/

open Cert.KernelIdeal in
/-- The reference's result is the kernel's: the kernel adds one on the right, the reference on the left. -/
theorem refOut_eq (X : FVec Ideal S32768x3 .f32) (J : IVec S32768 32) (R : IVec S32768x2 32) (A B : FVec Ideal S16x3 .f32)
    (hJ : ∀ e, (J e).toNat < 16) (hR : counts R = fun _ => 1#32) : refOut (F := Ideal) X J R A B = colour (F := Ideal) X J (stack (F := Ideal) A B) := by
  funext j
  have e : j = ix2 (j 0) (j 1) := eq_ix2 (n0 := 32768) (n1 := 3) j
  rw [e]
  have comm : ∀ a b : Ideal .f32, FloatOps.addf a b = FloatOps.addf b a := fun a b => add_comm (G := EReal) a b
  refine (refOut_apply X J R A B hJ hR (j 0) (j 1)).trans ?_
  refine Eq.trans ?_ (colour_apply (F := Ideal) X J A B hJ (j 0) (j 1)).symm
  rw [comm (FloatOps.ofBits .f32 0x3F800000#32)]

end Cert.Proof.Colour
-- ==== Proof.lean ====
/-
  The proof of `Cert.Claim`: what the precondition gives, then each claim. Both programs' runs are `run_main`
  (Proof/Launch.lean); the reference's result is read in Proof/Reference.lean.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Pre_idx_in_cams
public import proofs.«01_k».proof.Proof.Gen.Pre_idx_in_cams_one_sample_per_ray
public import proofs.«01_k».proof.Proof.Launch
public import proofs.«01_k».proof.Proof.Reference
public import Idealize.ShloMosaic.Adequacy
public import Idealize.ShloMosaic.Init

@[expose] public section

noncomputable section

namespace Cert.Proof

open Idealize.ShloMosaic Idealize.SL.Sem Cert.Proof.Colour

/-! ## The preconditions -/

theorem and_one : ∀ p q : BitVec 1, IntOp.andi p q = 1#1 → p = 1#1 ∧ q = 1#1 := by decide

theorem equal_one (v w : BitVec 32) (h : IntOp.cmpi .eq v w = 1#1) : v = w := by
  have one : ∀ p : Bool, BitVec.ofBool p = 1#1 ↔ p = true := by decide
  exact eq_of_beq ((one _).1 h)

section Pre

variable {F : FTy → Type} [FloatOps F] (X : FVec F Cert.KernelIdeal.S32768x3 .f32) (J : IVec Cert.KernelIdeal.S32768 32)
  (R : IVec Cert.KernelIdeal.S32768x2 32) (A B : FVec F Cert.KernelIdeal.S16x3 .f32)

/-- Every camera number is a row of the tables. -/
theorem cams_of_pre (h : Cert.Pre_idx_in_cams.fn X J R A B = fun _ => 1#1) (e : Cert.KernelIdeal.S32768.Idx) : (J e).toNat < 16 :=
  word_lt (J e) (congrFun h e)

/-- The second precondition says the same of the camera numbers, -/
theorem cams_of_pre_rays (h : Cert.Pre_idx_in_cams_one_sample_per_ray.fn X J R A B = fun _ => 1#1) (e : Cert.KernelIdeal.S32768.Idx) :
    (J e).toNat < 16 :=
  word_lt (J e) (and_one _ _ (congrFun h e)).1

/-- and that each ray has one sample. -/
theorem rays_of_pre (h : Cert.Pre_idx_in_cams_one_sample_per_ray.fn X J R A B = fun _ => 1#1) : counts R = fun _ => 1#32 :=
  funext fun e => equal_one _ _ (and_one _ _ (congrFun h e)).2

end Pre

/-! ## The frames -/

theorem frame_kernel : Cert.quiescent_Kernel := fun m ρ hp =>
  (θ_run Cert.KernelIdeal.defs _ _).mono (fun _ h => ⟨fun c => ⟨(h.1 c).1, (h.1 c).2.1, (h.1 c).2.2.1, (h.1 c).2.2.2.1, (h.1 c).2.2.2.2.1⟩, h.2⟩)
    (run_main (F := Bits) m ρ fun d => cams_of_pre _ _ _ _ _ (hp d))

/-- The idealized program's arguments end as they were and its counters at zero, whichever precondition places the camera numbers. -/
theorem frame_ideal (m : (ℓ : Loc Cert.KernelIdeal.nD Cert.KernelIdeal.τ Cert.KernelIdeal.sig) → Buf (Elt Ideal) ℓ)
    (ρ : Dev Cert.KernelIdeal.nD → PrngReg) (hp : PreOK m) :
    θ_run (Cert.KernelIdeal.defs (F := Ideal)) (Cert.KernelIdeal.threads (F := Ideal)) ⟨m, fun _ => 0, ρ⟩ fun r =>
      (∀ c, r.2.mem (rgbLoc c) = m (rgbLoc c) ∧ r.2.mem (idxLoc c) = m (idxLoc c) ∧ r.2.mem (raysLoc c) = m (raysLoc c)
        ∧ r.2.mem (scaleLoc c) = m (scaleLoc c) ∧ r.2.mem (shiftLoc c) = m (shiftLoc c)) ∧ r.2.sem = fun _ => 0 :=
  (θ_run Cert.KernelIdeal.defs _ _).mono (fun _ h => ⟨fun c => ⟨(h.1 c).1, (h.1 c).2.1, (h.1 c).2.2.1, (h.1 c).2.2.2.1, (h.1 c).2.2.2.2.1⟩, h.2⟩)
    (run_main (F := Ideal) m ρ hp)

theorem frame_kernel_ideal : Cert.quiescent_KernelIdeal := fun m ρ hp => frame_ideal m ρ fun d => cams_of_pre _ _ _ _ _ (hp d)

theorem frame_kernel_ideal_rays : Cert.quiescent_KernelIdeal_pre_idx_in_cams_one_sample_per_ray := fun m ρ hp =>
  frame_ideal m ρ fun d => cams_of_pre_rays _ _ _ _ _ (hp d)

/-- The reference's frame needs no precondition; it declares no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem frame_reference_rays : Cert.quiescent_ReferenceIdeal_pre_idx_in_cams_one_sample_per_ray := fun m ρ _ => frame_reference m ρ trivial

/-! ## The value -/

/-- Both programs end with `colour` of the kernel's arguments. -/
theorem algebraic : Cert.algebraic_KernelIdeal_ReferenceIdeal_pre_idx_in_cams_one_sample_per_ray := fun m ρ m' ρ' hp hm =>
  ⟨fun c => res c m,
    (θ_run Cert.KernelIdeal.defs _ _).mono
      (fun _ h c => ⟨(h.1 c).2.2.2.2.2, (h.1 c).1, (h.1 c).2.1, (h.1 c).2.2.1, (h.1 c).2.2.2.1, (h.1 c).2.2.2.2.1⟩)
      (run_main (F := Ideal) m ρ fun d => cams_of_pre_rays _ _ _ _ _ (hp d)),
    (θ_run Cert.ReferenceIdeal.defs _ _).mono
      (fun _ h c => ⟨((h c).1.trans (res_eq m' c)).trans (by
        obtain ⟨h0, h1, h2, h3, h4⟩ := hm c
        rw [h0, h1, h2, h3, h4]
        exact refOut_eq _ _ _ _ _ (cams_of_pre_rays _ _ _ _ _ (hp c)) (rays_of_pre _ _ _ _ _ (hp c))), (h c).2⟩)
      (Cert.ReferenceIdeal.Value.run (F := Ideal) m' ρ')⟩

theorem claim : Cert.Claim :=
  ⟨Cert.Kernel.Gen.facts, Cert.KernelIdeal.Gen.facts, Cert.ReferenceIdeal.Gen.facts, Cert.Pre_idx_in_cams.Gen.facts,
    Cert.Pre_idx_in_cams_one_sample_per_ray.Gen.facts, frame_kernel, frame_kernel_ideal, frame_kernel_ideal_rays, frame_reference,
    frame_reference_rays, trivial, algebraic⟩

end Cert.Proof

end
